-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨2, ![4096, 4096]⟩ ⟨2, ![8192, 4096]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S4096x4096 : Shape := ⟨2, ![4096, 4096]⟩
abbrev S1024x4096 : Shape := ⟨2, ![1024, 4096]⟩
abbrev S2x128x4096 : Shape := ⟨3, ![2, 128, 4096]⟩
abbrev S128x4096 : Shape := ⟨2, ![128, 4096]⟩
abbrev S5 : Shape := ⟨1, ![5]⟩
abbrev S8 : Shape := ⟨1, ![8]⟩
abbrev S_ : Shape := ⟨0, ![]⟩
abbrev S1 : Shape := ⟨1, ![1]⟩
abbrev S1x128x4096 : Shape := ⟨3, ![1, 128, 4096]⟩
abbrev S128 : Shape := ⟨1, ![128]⟩
abbrev S128x1 : Shape := ⟨2, ![128, 1]⟩
abbrev S1x4096 : Shape := ⟨2, ![1, 4096]⟩
abbrev S64x4096 : Shape := ⟨2, ![64, 4096]⟩
abbrev S1x64x4096 : Shape := ⟨3, ![1, 64, 4096]⟩

abbrev nBuf : Space → Nat
  | .hbm => 4
  | .vmem => 4
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S4096x4096, .f32⟩
  | .hbm, ⟨3, _⟩ => ⟨S1024x4096, .f32⟩
  | .local _ .vmem, ⟨0, _⟩ => ⟨S4096, .f32⟩
  | .local _ .vmem, ⟨1, _⟩ => ⟨S2x128x4096, .f32⟩
  | .local _ .vmem, ⟨2, _⟩ => ⟨S128x4096, .f32⟩
  | .local _ .vmem, ⟨3, _⟩ => ⟨S2x128x4096, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v32 : BitVec 32 := Scalar.muli v2 c8_i32_19
  let v33 : BitVec 32 := Scalar.addi c0_i32 v32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_20 : BitVec 32 := 4#32
  let v34 : BitVec 32 := Scalar.muli v10 c4_i32_20
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v36 : BitVec 32 := Scalar.muli v8 c1_i32_21
  let v37 : BitVec 32 := Scalar.addi v35 v36
  v37.toNat
def k0_dev2 (d0 : Dev nD) : Nat :=
  let c0_i32_24 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_23 : BitVec 32 := 8#32
  let v38 : BitVec 32 := Scalar.muli v11 c8_i32_23
  let v39 : BitVec 32 := Scalar.addi c0_i32_24 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_25 : BitVec 32 := 4#32
  let v40 : BitVec 32 := Scalar.muli v5 c4_i32_25
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v42 : BitVec 32 := Scalar.muli v8 c1_i32_26
  let v43 : BitVec 32 := Scalar.addi v41 v42
  v43.toNat
def k0_dev3 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_28 : BitVec 32 := 8#32
  let v44 : BitVec 32 := Scalar.muli v2 c8_i32_28
  let v45 : BitVec 32 := Scalar.addi c0_i32_29 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v46 : BitVec 32 := Scalar.muli v5 c4_i32_30
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_31 : BitVec 32 := 1#32
  let v48 : BitVec 32 := Scalar.muli v14 c1_i32_31
  let v49 : BitVec 32 := Scalar.addi v47 v48
  v49.toNat
def k0_off1 (d0 : Dev nD) (c0_i32_33 : BitVec 32) : Fin 3 → Nat :=
  let c0_i32_34 : BitVec 32 := 0#32
  let c1_i32_32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_32 v5
  let c4096_i32 : BitVec 32 := 4096#32
  let v51 : BitVec 32 := Scalar.muli v50 c4096_i32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c1024_i32 : BitVec 32 := 1024#32
  let v17 : BitVec 32 := Scalar.muli v16 c1024_i32
  let v52 : BitVec 32 := Scalar.addi v51 v17
  let v53 : BitVec 32 := Scalar.addi v52 c0_i32_33
  let c0_i32_43 : BitVec 32 := 0#32
  ![0, v53.toNat, 0]
def k0_dev4 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v54 : BitVec 32 := Scalar.muli v2 c8_i32_37
  let v55 : BitVec 32 := Scalar.addi c0_i32_38 v54
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_39 : BitVec 32 := 4#32
  let v56 : BitVec 32 := Scalar.muli v10 c4_i32_39
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v58 : BitVec 32 := Scalar.muli v8 c1_i32_40
  let v59 : BitVec 32 := Scalar.addi v57 v58
  v59.toNat
def k0_dev5 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v71 : BitVec 32 := Scalar.muli v2 c8_i32_49
  let v72 : BitVec 32 := Scalar.addi c0_i32_50 v71
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_51 : BitVec 32 := 4#32
  let v73 : BitVec 32 := Scalar.muli v10 c4_i32_51
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v75 : BitVec 32 := Scalar.muli v8 c1_i32_52
  let v76 : BitVec 32 := Scalar.addi v74 v75
  v76.toNat
def k0_dev6 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v88 : BitVec 32 := Scalar.muli v2 c8_i32_61
  let v89 : BitVec 32 := Scalar.addi c0_i32_62 v88
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_63 : BitVec 32 := 4#32
  let v90 : BitVec 32 := Scalar.muli v10 c4_i32_63
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v92 : BitVec 32 := Scalar.muli v8 c1_i32_64
  let v93 : BitVec 32 := Scalar.addi v91 v92
  v93.toNat
def k0_dev7 (d0 : Dev nD) : Nat :=
  let c0_i32_74 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_73 : BitVec 32 := 8#32
  let v105 : BitVec 32 := Scalar.muli v2 c8_i32_73
  let v106 : BitVec 32 := Scalar.addi c0_i32_74 v105
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_75 : BitVec 32 := 4#32
  let v107 : BitVec 32 := Scalar.muli v10 c4_i32_75
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v109 : BitVec 32 := Scalar.muli v8 c1_i32_76
  let v110 : BitVec 32 := Scalar.addi v108 v109
  v110.toNat
def k0_dev8 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v122 : BitVec 32 := Scalar.muli v2 c8_i32_85
  let v123 : BitVec 32 := Scalar.addi c0_i32_86 v122
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_87 : BitVec 32 := 4#32
  let v124 : BitVec 32 := Scalar.muli v10 c4_i32_87
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v126 : BitVec 32 := Scalar.muli v8 c1_i32_88
  let v127 : BitVec 32 := Scalar.addi v125 v126
  v127.toNat
def k0_dev9 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v139 : BitVec 32 := Scalar.muli v2 c8_i32_96
  let v140 : BitVec 32 := Scalar.addi c0_i32_97 v139
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_98 : BitVec 32 := 4#32
  let v141 : BitVec 32 := Scalar.muli v10 c4_i32_98
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v143 : BitVec 32 := Scalar.muli v8 c1_i32_99
  let v144 : BitVec 32 := Scalar.addi v142 v143
  v144.toNat
def k0_dev10 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v156 : BitVec 32 := Scalar.muli v2 c8_i32_107
  let v157 : BitVec 32 := Scalar.addi c0_i32_108 v156
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_109 : BitVec 32 := 4#32
  let v158 : BitVec 32 := Scalar.muli v10 c4_i32_109
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v160 : BitVec 32 := Scalar.muli v8 c1_i32_110
  let v161 : BitVec 32 := Scalar.addi v159 v160
  v161.toNat
def k0_dev11 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v173 : BitVec 32 := Scalar.muli v2 c8_i32_118
  let v174 : BitVec 32 := Scalar.addi c0_i32_119 v173
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_120 : BitVec 32 := 4#32
  let v175 : BitVec 32 := Scalar.muli v10 c4_i32_120
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v177 : BitVec 32 := Scalar.muli v8 c1_i32_121
  let v178 : BitVec 32 := Scalar.addi v176 v177
  v178.toNat
def k0_off2 (d0 : Dev nD) (c0_i32_165 : BitVec 32) : Fin 3 → Nat :=
  let c0_i32_166 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_164 : BitVec 32 := 4096#32
  let v226 : BitVec 32 := Scalar.muli v5 c4096_i32_164
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c1024_i32 : BitVec 32 := 1024#32
  let v17 : BitVec 32 := Scalar.muli v16 c1024_i32
  let v227 : BitVec 32 := Scalar.addi v226 v17
  let v228 : BitVec 32 := Scalar.addi v227 c0_i32_165
  let c0_i32_171 : BitVec 32 := 0#32
  ![0, v228.toNat, 0]
def k0_off3 (d0 : Dev nD) (c0_i32_172 : BitVec 32) : Fin 2 → Nat :=
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c1024_i32 : BitVec 32 := 1024#32
  let v17 : BitVec 32 := Scalar.muli v16 c1024_i32
  let v235 : BitVec 32 := Scalar.addi v17 c0_i32_172
  let c0_i32_220 : BitVec 32 := 0#32
  ![v235.toNat, 0]
def k0_dev12 (d0 : Dev nD) : Nat :=
  let c0_i32_217 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_216 : BitVec 32 := 8#32
  let v290 : BitVec 32 := Scalar.muli v11 c8_i32_216
  let v291 : BitVec 32 := Scalar.addi c0_i32_217 v290
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_218 : BitVec 32 := 4#32
  let v292 : BitVec 32 := Scalar.muli v5 c4_i32_218
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v294 : BitVec 32 := Scalar.muli v8 c1_i32_219
  let v295 : BitVec 32 := Scalar.addi v293 v294
  v295.toNat
def k0_dev13 (d0 : Dev nD) : Nat :=
  let c0_i32_227 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_226 : BitVec 32 := 8#32
  let v303 : BitVec 32 := Scalar.muli v2 c8_i32_226
  let v304 : BitVec 32 := Scalar.addi c0_i32_227 v303
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_228 : BitVec 32 := 4#32
  let v305 : BitVec 32 := Scalar.muli v5 c4_i32_228
  let v306 : BitVec 32 := Scalar.addi v304 v305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_229 : BitVec 32 := 1#32
  let v307 : BitVec 32 := Scalar.muli v14 c1_i32_229
  let v308 : BitVec 32 := Scalar.addi v306 v307
  v308.toNat
def k0_dev14 (d0 : Dev nD) : Nat :=
  let c0_i32_284 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_283 : BitVec 32 := 8#32
  let v376 : BitVec 32 := Scalar.muli v11 c8_i32_283
  let v377 : BitVec 32 := Scalar.addi c0_i32_284 v376
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v378 : BitVec 32 := Scalar.muli v5 c4_i32_285
  let v379 : BitVec 32 := Scalar.addi v377 v378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v380 : BitVec 32 := Scalar.muli v8 c1_i32_286
  let v381 : BitVec 32 := Scalar.addi v379 v380
  v381.toNat
def k0_dev15 (d0 : Dev nD) : Nat :=
  let c0_i32_294 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_293 : BitVec 32 := 8#32
  let v389 : BitVec 32 := Scalar.muli v2 c8_i32_293
  let v390 : BitVec 32 := Scalar.addi c0_i32_294 v389
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_295 : BitVec 32 := 4#32
  let v391 : BitVec 32 := Scalar.muli v5 c4_i32_295
  let v392 : BitVec 32 := Scalar.addi v390 v391
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_296 : BitVec 32 := 1#32
  let v393 : BitVec 32 := Scalar.muli v14 c1_i32_296
  let v394 : BitVec 32 := Scalar.addi v392 v393
  v394.toNat
def k0_dev16 (d0 : Dev nD) : Nat :=
  let c0_i32_371 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_370 : BitVec 32 := 8#32
  let v477 : BitVec 32 := Scalar.muli v11 c8_i32_370
  let v478 : BitVec 32 := Scalar.addi c0_i32_371 v477
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_372 : BitVec 32 := 4#32
  let v479 : BitVec 32 := Scalar.muli v5 c4_i32_372
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v481 : BitVec 32 := Scalar.muli v8 c1_i32_373
  let v482 : BitVec 32 := Scalar.addi v480 v481
  v482.toNat
def k0_dev17 (d0 : Dev nD) : Nat :=
  let c0_i32_381 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_380 : BitVec 32 := 8#32
  let v490 : BitVec 32 := Scalar.muli v2 c8_i32_380
  let v491 : BitVec 32 := Scalar.addi c0_i32_381 v490
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_382 : BitVec 32 := 4#32
  let v492 : BitVec 32 := Scalar.muli v5 c4_i32_382
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_383 : BitVec 32 := 1#32
  let v494 : BitVec 32 := Scalar.muli v14 c1_i32_383
  let v495 : BitVec 32 := Scalar.addi v493 v494
  v495.toNat
def k0_off4 (d0 : Dev nD) (c0_i32_125 : BitVec 32) : Fin 2 → Nat :=
  let c2_i32_9 : BitVec 32 := 2#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_8 v2
  let v19 : BitVec 32 := Scalar.muli c2_i32_9 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v20 : BitVec 32 := Scalar.addi v19 v9
  let c1024_i32_10 : BitVec 32 := 1024#32
  let v21 : BitVec 32 := Scalar.muli v20 c1024_i32_10
  let v186 : BitVec 32 := Scalar.addi v21 c0_i32_125
  let c0_i32_399 : BitVec 32 := 0#32
  ![v186.toNat, 0]
def k0_off5 (d0 : Dev nD) (c0_i32_403 : BitVec 32) : Fin 2 → Nat :=
  let c2_i32_9 : BitVec 32 := 2#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_8 v2
  let v19 : BitVec 32 := Scalar.muli c2_i32_9 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v20 : BitVec 32 := Scalar.addi v19 v9
  let c1024_i32_10 : BitVec 32 := 1024#32
  let v21 : BitVec 32 := Scalar.muli v20 c1024_i32_10
  let v520 : BitVec 32 := Scalar.addi v21 c0_i32_403
  let c0_i32_410 : BitVec 32 := 0#32
  ![v520.toNat, 0]
def k0_dev18 (d0 : Dev nD) : Nat :=
  let c0_i32_407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_406 : BitVec 32 := 8#32
  let v521 : BitVec 32 := Scalar.muli v2 c8_i32_406
  let v522 : BitVec 32 := Scalar.addi c0_i32_407 v521
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_408 : BitVec 32 := 4#32
  let v523 : BitVec 32 := Scalar.muli v5 c4_i32_408
  let v524 : BitVec 32 := Scalar.addi v522 v523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_409 : BitVec 32 := 1#32
  let v525 : BitVec 32 := Scalar.muli v14 c1_i32_409
  let v526 : BitVec 32 := Scalar.addi v524 v525
  v526.toNat
def k0_off6 (d0 : Dev nD) (c0_i32_133 : BitVec 32) : Fin 2 → Nat :=
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v23 : BitVec 32 := Scalar.subi c1_i32_12 v9
  let v24 : BitVec 32 := Scalar.addi v22 v23
  let c1024_i32_13 : BitVec 32 := 1024#32
  let v25 : BitVec 32 := Scalar.muli v24 c1024_i32_13
  let v194 : BitVec 32 := Scalar.addi v25 c0_i32_133
  let c0_i32_419 : BitVec 32 := 0#32
  ![v194.toNat, 0]
def k0_off7 (d0 : Dev nD) (c0_i32_424 : BitVec 32) : Fin 2 → Nat :=
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v22 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v23 : BitVec 32 := Scalar.subi c1_i32_12 v9
  let v24 : BitVec 32 := Scalar.addi v22 v23
  let c1024_i32_13 : BitVec 32 := 1024#32
  let v25 : BitVec 32 := Scalar.muli v24 c1024_i32_13
  let v546 : BitVec 32 := Scalar.addi v25 c0_i32_424
  let c64_i32_425 : BitVec 32 := 64#32
  let v547 : BitVec 32 := Scalar.addi v546 c64_i32_425
  let c0_i32_432 : BitVec 32 := 0#32
  ![v547.toNat, 0]
def k0_dev19 (d0 : Dev nD) : Nat :=
  let c0_i32_429 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_428 : BitVec 32 := 8#32
  let v548 : BitVec 32 := Scalar.muli v11 c8_i32_428
  let v549 : BitVec 32 := Scalar.addi c0_i32_429 v548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_430 : BitVec 32 := 4#32
  let v550 : BitVec 32 := Scalar.muli v5 c4_i32_430
  let v551 : BitVec 32 := Scalar.addi v549 v550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_431 : BitVec 32 := 1#32
  let v552 : BitVec 32 := Scalar.muli v8 c1_i32_431
  let v553 : BitVec 32 := Scalar.addi v551 v552
  v553.toNat
def k0_dev20 (d0 : Dev nD) : Nat :=
  let c0_i32_500 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_499 : BitVec 32 := 8#32
  let v630 : BitVec 32 := Scalar.muli v11 c8_i32_499
  let v631 : BitVec 32 := Scalar.addi c0_i32_500 v630
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_501 : BitVec 32 := 4#32
  let v632 : BitVec 32 := Scalar.muli v5 c4_i32_501
  let v633 : BitVec 32 := Scalar.addi v631 v632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v634 : BitVec 32 := Scalar.muli v8 c1_i32_502
  let v635 : BitVec 32 := Scalar.addi v633 v634
  v635.toNat
def k0_dev21 (d0 : Dev nD) : Nat :=
  let c0_i32_510 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_509 : BitVec 32 := 8#32
  let v643 : BitVec 32 := Scalar.muli v2 c8_i32_509
  let v644 : BitVec 32 := Scalar.addi c0_i32_510 v643
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_511 : BitVec 32 := 4#32
  let v645 : BitVec 32 := Scalar.muli v5 c4_i32_511
  let v646 : BitVec 32 := Scalar.addi v644 v645
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_512 : BitVec 32 := 1#32
  let v647 : BitVec 32 := Scalar.muli v14 c1_i32_512
  let v648 : BitVec 32 := Scalar.addi v646 v647
  v648.toNat
def k0_dev22 (d0 : Dev nD) : Nat :=
  let c0_i32_536 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_535 : BitVec 32 := 8#32
  let v674 : BitVec 32 := Scalar.muli v2 c8_i32_535
  let v675 : BitVec 32 := Scalar.addi c0_i32_536 v674
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_537 : BitVec 32 := 4#32
  let v676 : BitVec 32 := Scalar.muli v5 c4_i32_537
  let v677 : BitVec 32 := Scalar.addi v675 v676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_538 : BitVec 32 := 1#32
  let v678 : BitVec 32 := Scalar.muli v14 c1_i32_538
  let v679 : BitVec 32 := Scalar.addi v677 v678
  v679.toNat
def k0_dev23 (d0 : Dev nD) : Nat :=
  let c0_i32_558 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_557 : BitVec 32 := 8#32
  let v701 : BitVec 32 := Scalar.muli v11 c8_i32_557
  let v702 : BitVec 32 := Scalar.addi c0_i32_558 v701
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_559 : BitVec 32 := 4#32
  let v703 : BitVec 32 := Scalar.muli v5 c4_i32_559
  let v704 : BitVec 32 := Scalar.addi v702 v703
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_560 : BitVec 32 := 1#32
  let v705 : BitVec 32 := Scalar.muli v8 c1_i32_560
  let v706 : BitVec 32 := Scalar.addi v704 v705
  v706.toNat
def k0_dev24 (d0 : Dev nD) : Nat :=
  let c0_i32_629 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_628 : BitVec 32 := 8#32
  let v783 : BitVec 32 := Scalar.muli v11 c8_i32_628
  let v784 : BitVec 32 := Scalar.addi c0_i32_629 v783
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_630 : BitVec 32 := 4#32
  let v785 : BitVec 32 := Scalar.muli v5 c4_i32_630
  let v786 : BitVec 32 := Scalar.addi v784 v785
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_631 : BitVec 32 := 1#32
  let v787 : BitVec 32 := Scalar.muli v8 c1_i32_631
  let v788 : BitVec 32 := Scalar.addi v786 v787
  v788.toNat
def k0_dev25 (d0 : Dev nD) : Nat :=
  let c0_i32_639 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_638 : BitVec 32 := 8#32
  let v796 : BitVec 32 := Scalar.muli v2 c8_i32_638
  let v797 : BitVec 32 := Scalar.addi c0_i32_639 v796
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_640 : BitVec 32 := 4#32
  let v798 : BitVec 32 := Scalar.muli v5 c4_i32_640
  let v799 : BitVec 32 := Scalar.addi v797 v798
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_641 : BitVec 32 := 1#32
  let v800 : BitVec 32 := Scalar.muli v14 c1_i32_641
  let v801 : BitVec 32 := Scalar.addi v799 v800
  v801.toNat
def k0_dev26 (d0 : Dev nD) : Nat :=
  let c0_i32_665 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_664 : BitVec 32 := 8#32
  let v827 : BitVec 32 := Scalar.muli v2 c8_i32_664
  let v828 : BitVec 32 := Scalar.addi c0_i32_665 v827
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_666 : BitVec 32 := 4#32
  let v829 : BitVec 32 := Scalar.muli v5 c4_i32_666
  let v830 : BitVec 32 := Scalar.addi v828 v829
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_667 : BitVec 32 := 1#32
  let v831 : BitVec 32 := Scalar.muli v14 c1_i32_667
  let v832 : BitVec 32 := Scalar.addi v830 v831
  v832.toNat
def k0_dev27 (d0 : Dev nD) : Nat :=
  let c0_i32_687 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_686 : BitVec 32 := 8#32
  let v854 : BitVec 32 := Scalar.muli v11 c8_i32_686
  let v855 : BitVec 32 := Scalar.addi c0_i32_687 v854
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_688 : BitVec 32 := 4#32
  let v856 : BitVec 32 := Scalar.muli v5 c4_i32_688
  let v857 : BitVec 32 := Scalar.addi v855 v856
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_689 : BitVec 32 := 1#32
  let v858 : BitVec 32 := Scalar.muli v8 c1_i32_689
  let v859 : BitVec 32 := Scalar.addi v857 v858
  v859.toNat
def k0_dev28 (d0 : Dev nD) : Nat :=
  let c0_i32_758 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_757 : BitVec 32 := 8#32
  let v936 : BitVec 32 := Scalar.muli v11 c8_i32_757
  let v937 : BitVec 32 := Scalar.addi c0_i32_758 v936
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_759 : BitVec 32 := 4#32
  let v938 : BitVec 32 := Scalar.muli v5 c4_i32_759
  let v939 : BitVec 32 := Scalar.addi v937 v938
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_760 : BitVec 32 := 1#32
  let v940 : BitVec 32 := Scalar.muli v8 c1_i32_760
  let v941 : BitVec 32 := Scalar.addi v939 v940
  v941.toNat
def k0_dev29 (d0 : Dev nD) : Nat :=
  let c0_i32_768 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_767 : BitVec 32 := 8#32
  let v949 : BitVec 32 := Scalar.muli v2 c8_i32_767
  let v950 : BitVec 32 := Scalar.addi c0_i32_768 v949
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_769 : BitVec 32 := 4#32
  let v951 : BitVec 32 := Scalar.muli v5 c4_i32_769
  let v952 : BitVec 32 := Scalar.addi v950 v951
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_770 : BitVec 32 := 1#32
  let v953 : BitVec 32 := Scalar.muli v14 c1_i32_770
  let v954 : BitVec 32 := Scalar.addi v952 v953
  v954.toNat
def k0_dev30 (d0 : Dev nD) : Nat :=
  let c0_i32_794 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_793 : BitVec 32 := 8#32
  let v980 : BitVec 32 := Scalar.muli v2 c8_i32_793
  let v981 : BitVec 32 := Scalar.addi c0_i32_794 v980
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_795 : BitVec 32 := 4#32
  let v982 : BitVec 32 := Scalar.muli v5 c4_i32_795
  let v983 : BitVec 32 := Scalar.addi v981 v982
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_796 : BitVec 32 := 1#32
  let v984 : BitVec 32 := Scalar.muli v14 c1_i32_796
  let v985 : BitVec 32 := Scalar.addi v983 v984
  v985.toNat
def k0_dev31 (d0 : Dev nD) : Nat :=
  let c0_i32_816 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_815 : BitVec 32 := 8#32
  let v1007 : BitVec 32 := Scalar.muli v11 c8_i32_815
  let v1008 : BitVec 32 := Scalar.addi c0_i32_816 v1007
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_817 : BitVec 32 := 4#32
  let v1009 : BitVec 32 := Scalar.muli v5 c4_i32_817
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_818 : BitVec 32 := 1#32
  let v1011 : BitVec 32 := Scalar.muli v8 c1_i32_818
  let v1012 : BitVec 32 := Scalar.addi v1010 v1011
  v1012.toNat
def k0_dev32 (d0 : Dev nD) : Nat :=
  let c0_i32_887 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_886 : BitVec 32 := 8#32
  let v1089 : BitVec 32 := Scalar.muli v11 c8_i32_886
  let v1090 : BitVec 32 := Scalar.addi c0_i32_887 v1089
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_888 : BitVec 32 := 4#32
  let v1091 : BitVec 32 := Scalar.muli v5 c4_i32_888
  let v1092 : BitVec 32 := Scalar.addi v1090 v1091
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_889 : BitVec 32 := 1#32
  let v1093 : BitVec 32 := Scalar.muli v8 c1_i32_889
  let v1094 : BitVec 32 := Scalar.addi v1092 v1093
  v1094.toNat
def k0_dev33 (d0 : Dev nD) : Nat :=
  let c0_i32_897 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_896 : BitVec 32 := 8#32
  let v1102 : BitVec 32 := Scalar.muli v2 c8_i32_896
  let v1103 : BitVec 32 := Scalar.addi c0_i32_897 v1102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_898 : BitVec 32 := 4#32
  let v1104 : BitVec 32 := Scalar.muli v5 c4_i32_898
  let v1105 : BitVec 32 := Scalar.addi v1103 v1104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_899 : BitVec 32 := 1#32
  let v1106 : BitVec 32 := Scalar.muli v14 c1_i32_899
  let v1107 : BitVec 32 := Scalar.addi v1105 v1106
  v1107.toNat
def k0_dev34 (d0 : Dev nD) : Nat :=
  let c0_i32_923 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_922 : BitVec 32 := 8#32
  let v1133 : BitVec 32 := Scalar.muli v2 c8_i32_922
  let v1134 : BitVec 32 := Scalar.addi c0_i32_923 v1133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_924 : BitVec 32 := 4#32
  let v1135 : BitVec 32 := Scalar.muli v5 c4_i32_924
  let v1136 : BitVec 32 := Scalar.addi v1134 v1135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_925 : BitVec 32 := 1#32
  let v1137 : BitVec 32 := Scalar.muli v14 c1_i32_925
  let v1138 : BitVec 32 := Scalar.addi v1136 v1137
  v1138.toNat
def k0_dev35 (d0 : Dev nD) : Nat :=
  let c0_i32_945 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_944 : BitVec 32 := 8#32
  let v1160 : BitVec 32 := Scalar.muli v11 c8_i32_944
  let v1161 : BitVec 32 := Scalar.addi c0_i32_945 v1160
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_946 : BitVec 32 := 4#32
  let v1162 : BitVec 32 := Scalar.muli v5 c4_i32_946
  let v1163 : BitVec 32 := Scalar.addi v1161 v1162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_947 : BitVec 32 := 1#32
  let v1164 : BitVec 32 := Scalar.muli v8 c1_i32_947
  let v1165 : BitVec 32 := Scalar.addi v1163 v1164
  v1165.toNat
def k0_dev36 (d0 : Dev nD) : Nat :=
  let c0_i32_1008 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1007 : BitVec 32 := 8#32
  let v1233 : BitVec 32 := Scalar.muli v11 c8_i32_1007
  let v1234 : BitVec 32 := Scalar.addi c0_i32_1008 v1233
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1009 : BitVec 32 := 4#32
  let v1235 : BitVec 32 := Scalar.muli v5 c4_i32_1009
  let v1236 : BitVec 32 := Scalar.addi v1234 v1235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1010 : BitVec 32 := 1#32
  let v1237 : BitVec 32 := Scalar.muli v8 c1_i32_1010
  let v1238 : BitVec 32 := Scalar.addi v1236 v1237
  v1238.toNat
def k0_dev37 (d0 : Dev nD) : Nat :=
  let c0_i32_1018 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1017 : BitVec 32 := 8#32
  let v1246 : BitVec 32 := Scalar.muli v2 c8_i32_1017
  let v1247 : BitVec 32 := Scalar.addi c0_i32_1018 v1246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1019 : BitVec 32 := 4#32
  let v1248 : BitVec 32 := Scalar.muli v5 c4_i32_1019
  let v1249 : BitVec 32 := Scalar.addi v1247 v1248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1020 : BitVec 32 := 1#32
  let v1250 : BitVec 32 := Scalar.muli v14 c1_i32_1020
  let v1251 : BitVec 32 := Scalar.addi v1249 v1250
  v1251.toNat
def k0_dev38 (d0 : Dev nD) : Nat :=
  let c0_i32_1044 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1043 : BitVec 32 := 8#32
  let v1277 : BitVec 32 := Scalar.muli v2 c8_i32_1043
  let v1278 : BitVec 32 := Scalar.addi c0_i32_1044 v1277
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1045 : BitVec 32 := 4#32
  let v1279 : BitVec 32 := Scalar.muli v5 c4_i32_1045
  let v1280 : BitVec 32 := Scalar.addi v1278 v1279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1046 : BitVec 32 := 1#32
  let v1281 : BitVec 32 := Scalar.muli v14 c1_i32_1046
  let v1282 : BitVec 32 := Scalar.addi v1280 v1281
  v1282.toNat
def k0_dev39 (d0 : Dev nD) : Nat :=
  let c0_i32_1066 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1065 : BitVec 32 := 8#32
  let v1304 : BitVec 32 := Scalar.muli v11 c8_i32_1065
  let v1305 : BitVec 32 := Scalar.addi c0_i32_1066 v1304
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1067 : BitVec 32 := 4#32
  let v1306 : BitVec 32 := Scalar.muli v5 c4_i32_1067
  let v1307 : BitVec 32 := Scalar.addi v1305 v1306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1068 : BitVec 32 := 1#32
  let v1308 : BitVec 32 := Scalar.muli v8 c1_i32_1068
  let v1309 : BitVec 32 := Scalar.addi v1307 v1308
  v1309.toNat
def k0_dev40 (d0 : Dev nD) : Nat :=
  let c0_i32_1086 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1085 : BitVec 32 := 8#32
  let v1329 : BitVec 32 := Scalar.muli v2 c8_i32_1085
  let v1330 : BitVec 32 := Scalar.addi c0_i32_1086 v1329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1087 : BitVec 32 := 4#32
  let v1331 : BitVec 32 := Scalar.muli v5 c4_i32_1087
  let v1332 : BitVec 32 := Scalar.addi v1330 v1331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1088 : BitVec 32 := 1#32
  let v1333 : BitVec 32 := Scalar.muli v14 c1_i32_1088
  let v1334 : BitVec 32 := Scalar.addi v1332 v1333
  v1334.toNat
def k0_dev41 (d0 : Dev nD) : Nat :=
  let c0_i32_1108 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1107 : BitVec 32 := 8#32
  let v1356 : BitVec 32 := Scalar.muli v11 c8_i32_1107
  let v1357 : BitVec 32 := Scalar.addi c0_i32_1108 v1356
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1109 : BitVec 32 := 4#32
  let v1358 : BitVec 32 := Scalar.muli v5 c4_i32_1109
  let v1359 : BitVec 32 := Scalar.addi v1357 v1358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1110 : BitVec 32 := 1#32
  let v1360 : BitVec 32 := Scalar.muli v8 c1_i32_1110
  let v1361 : BitVec 32 := Scalar.addi v1359 v1360
  v1361.toNat
def k0_dev42 (d0 : Dev nD) : Nat :=
  let c0_i32_1128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1127 : BitVec 32 := 8#32
  let v1381 : BitVec 32 := Scalar.muli v2 c8_i32_1127
  let v1382 : BitVec 32 := Scalar.addi c0_i32_1128 v1381
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1129 : BitVec 32 := 4#32
  let v1383 : BitVec 32 := Scalar.muli v5 c4_i32_1129
  let v1384 : BitVec 32 := Scalar.addi v1382 v1383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1130 : BitVec 32 := 1#32
  let v1385 : BitVec 32 := Scalar.muli v14 c1_i32_1130
  let v1386 : BitVec 32 := Scalar.addi v1384 v1385
  v1386.toNat
def k0_dev43 (d0 : Dev nD) : Nat :=
  let c0_i32_1150 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1149 : BitVec 32 := 8#32
  let v1408 : BitVec 32 := Scalar.muli v11 c8_i32_1149
  let v1409 : BitVec 32 := Scalar.addi c0_i32_1150 v1408
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1151 : BitVec 32 := 4#32
  let v1410 : BitVec 32 := Scalar.muli v5 c4_i32_1151
  let v1411 : BitVec 32 := Scalar.addi v1409 v1410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1152 : BitVec 32 := 1#32
  let v1412 : BitVec 32 := Scalar.muli v8 c1_i32_1152
  let v1413 : BitVec 32 := Scalar.addi v1411 v1412
  v1413.toNat
def k0_off8 (d0 : Dev nD) (c0_i32_141 : BitVec 32) : Fin 2 → Nat :=
  let c2_i32_15 : BitVec 32 := 2#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v26 : BitVec 32 := Scalar.subi c1_i32_14 v2
  let v27 : BitVec 32 := Scalar.muli c2_i32_15 v26
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v28 : BitVec 32 := Scalar.subi c1_i32_16 v9
  let v29 : BitVec 32 := Scalar.addi v27 v28
  let c1024_i32_17 : BitVec 32 := 1024#32
  let v30 : BitVec 32 := Scalar.muli v29 c1024_i32_17
  let v202 : BitVec 32 := Scalar.addi v30 c0_i32_141
  let c0_i32_1162 : BitVec 32 := 0#32
  ![v202.toNat, 0]
def k0_off9 (d0 : Dev nD) (c0_i32_149 : BitVec 32) : Fin 2 → Nat :=
  let c2_i32_15 : BitVec 32 := 2#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v26 : BitVec 32 := Scalar.subi c1_i32_14 v2
  let v27 : BitVec 32 := Scalar.muli c2_i32_15 v26
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v28 : BitVec 32 := Scalar.subi c1_i32_16 v9
  let v29 : BitVec 32 := Scalar.addi v27 v28
  let c1024_i32_17 : BitVec 32 := 1024#32
  let v30 : BitVec 32 := Scalar.muli v29 c1024_i32_17
  let v210 : BitVec 32 := Scalar.addi v30 c0_i32_149
  let c64_i32 : BitVec 32 := 64#32
  let v211 : BitVec 32 := Scalar.addi v210 c64_i32
  let c0_i32_1172 : BitVec 32 := 0#32
  ![v211.toNat, 0]
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Body.lean ====
/-
The kernel's body as a sequence of chunk-indexed pieces. The printed body is straight-line code in which every
piece appears once per chunk with its offsets spelled out; here each piece is one definition in the chunk `k`,
and `cc0_body_eq` says that the printed body is their sequence.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Run

open Cert.KernelIdeal Cert.KernelIdeal.Gen
open Idealize.ShloMosaic Idealize.ShloMosaic.TcCoe Idealize.SL.Sem

variable {F : FTy → Type} [FloatOps F]

/-- Programs of the kernel's body. -/
abbrev Pr : Type → Type 1 := fun α => Prog (TpuEff nD τ sig (Elt F) Λ₀ .tc) α

/-! ## Buffers -/

/-- The device's two halves of `partial`'s block, -/
abbrev pM : Memref sig .tc .hbm S1x8192x4096 .f32 := Memref.whole main_arg0
/-- the staged `gamma`, -/
abbrev gM : Memref sig .tc .vmem S4096 .f32 := Memref.whole cc0_stg0_0
/-- the result, -/
abbrev outM : Memref sig .tc .hbm S4096x4096 .f32 := Memref.whole main_v1_0
/-- the landing buffer of the exchange along `y`, -/
abbrev rvM : Memref sig .tc .hbm S1024x4096 .f32 := Memref.whole main_v1_1
/-- and the three work buffers: two slots for the own half, the partner's half, two slots for the result. -/
abbrev aM : Memref sig .tc .vmem S2x128x4096 .f32 := Memref.whole cc0_scratch0
abbrev bM : Memref sig .tc .vmem S128x4096 .f32 := Memref.whole cc0_scratch1
abbrev oM : Memref sig .tc .vmem S2x128x4096 .f32 := Memref.whole cc0_scratch2

/-! ## Pieces of the buffers -/

/-- Chunk `k`'s first row within a quarter, as the word the offsets take. -/
abbrev wd (k : Fin 8) : BitVec 32 := BitVec.ofNat 32 (128 * k.val)
/-- The slot chunk `k` uses. -/
abbrev sl (k : Fin 8) : Fin 2 := ⟨k.val % 2, Nat.mod_lt _ (by decide)⟩

theorem inb_rv : ∀ (k : Fin 8) (a), (![128 * k.val, 0] : Fin 2 → Nat) a + S128x4096.size a ≤ S1024x4096.size a := by decide
theorem inb_sl : ∀ (s : Fin 2) (a), (![s.val, 0, 0] : Fin 3 → Nat) a + S1x128x4096.size a ≤ S2x128x4096.size a := by decide
theorem inb_s8 : ∀ (k : Fin 8) (a), (![k.val] : Fin 1 → Nat) a + S1.size a ≤ S8.size a := by decide
theorem inb_s5 : ∀ (k : Fin 5) (a), (![k.val] : Fin 1 → Nat) a + S1.size a ≤ S5.size a := by decide

/-- Chunk `k` of the half the `y` partner reduces, -/
abbrev pY (c : Dev nD) (k : Fin 8) : Memref sig .tc .hbm S128x4096 .f32 :=
  (pM.slice (Rect.unit (s := S1x8192x4096) (k0_off1 c (wd k)) S1x128x4096.size (k0_off1_inb c k)) (fun _ => rfl)).squeeze S128x4096 squeezes_S1x128x4096_S128x4096
/-- chunk `k` of the half this device reduces, -/
abbrev pA (c : Dev nD) (k : Fin 8) : Memref sig .tc .hbm S128x4096 .f32 :=
  (pM.slice (Rect.unit (s := S1x8192x4096) (k0_off2 c (wd k)) S1x128x4096.size (k0_off2_inb c k)) (fun _ => rfl)).squeeze S128x4096 squeezes_S1x128x4096_S128x4096
/-- chunk `k` of the landing buffer, -/
abbrev rv (k : Fin 8) : Memref sig .tc .hbm S128x4096 .f32 :=
  rvM.slice (Rect.unit (s := S1024x4096) ![128 * k.val, 0] S128x4096.size (inb_rv k)) (fun _ => rfl)
/-- the slots of the own half and of the result, -/
abbrev slR (s : Fin 2) : Rect S2x128x4096 := Rect.unit (s := S2x128x4096) ![s.val, 0, 0] S1x128x4096.size (inb_sl s)
abbrev aS (s : Fin 2) : Memref sig .tc .vmem S128x4096 .f32 := (aM.slice (slR s) (fun _ => rfl)).squeeze S128x4096 squeezes_S1x128x4096_S128x4096
abbrev oS (s : Fin 2) : Memref sig .tc .vmem S128x4096 .f32 := (oM.slice (slR s) (fun _ => rfl)).squeeze S128x4096 squeezes_S1x128x4096_S128x4096
/-- the first 64 rows of a result slot, which some waits name for its size alone, -/
abbrev oH : Memref sig .tc .vmem S64x4096 .f32 :=
  (oM.slice (Rect.unit (s := S2x128x4096) ![0, 0, 0] S1x64x4096.size inb_S2x128x4096_S1x64x4096_0_0_0) (fun _ => rfl)).squeeze S64x4096 squeezes_S1x64x4096_S64x4096
/-- and the result's rows: chunk `k` of the own quarter, of the `x` partner's, of the `z` partner's, -/
abbrev outO (c : Dev nD) (k : Fin 8) : Memref sig .tc .hbm S128x4096 .f32 :=
  outM.slice (Rect.unit (s := S4096x4096) (k0_off3 c (wd k)) S128x4096.size (k0_off3_inb c k)) (fun _ => rfl)
abbrev outX (c : Dev nD) (k : Fin 8) : Memref sig .tc .hbm S128x4096 .f32 :=
  outM.slice (Rect.unit (s := S4096x4096) (k0_off4 c (wd k)) S128x4096.size (k0_off4_inb c k)) (fun _ => rfl)
abbrev outZ (c : Dev nD) (k : Fin 8) : Memref sig .tc .hbm S128x4096 .f32 :=
  outM.slice (Rect.unit (s := S4096x4096) (k0_off6 c (wd k)) S128x4096.size (k0_off6_inb c k)) (fun _ => rfl)
/-- the half chunks passed on along `z` and along `x`, -/
abbrev fwZ (c : Dev nD) (k : Fin 8) : Memref sig .tc .hbm S64x4096 .f32 :=
  outM.slice (Rect.unit (s := S4096x4096) (k0_off5 c (wd k)) S64x4096.size (k0_off5_inb c k)) (fun _ => rfl)
abbrev fwX (c : Dev nD) (k : Fin 8) : Memref sig .tc .hbm S64x4096 .f32 :=
  outM.slice (Rect.unit (s := S4096x4096) (k0_off7 c (wd k)) S64x4096.size (k0_off7_inb c k)) (fun _ => rfl)
/-- and the half chunks that arrive so, of the quarter across both axes. -/
abbrev inZ (c : Dev nD) (k : Fin 8) : Memref sig .tc .hbm S64x4096 .f32 :=
  outM.slice (Rect.unit (s := S4096x4096) (k0_off8 c (wd k)) S64x4096.size (k0_off8_inb c k)) (fun _ => rfl)
abbrev inX (c : Dev nD) (k : Fin 8) : Memref sig .tc .hbm S64x4096 .f32 :=
  outM.slice (Rect.unit (s := S4096x4096) (k0_off9 c (wd k)) S64x4096.size (k0_off9_inb c k)) (fun _ => rfl)

/-! ## Semaphores -/

/-- The `k`-th semaphore of an array of eight, the `i`-th of the array of five, the barrier semaphore. -/
abbrev s8 (a : DmaSems sig S8) (k : Fin 8) : DmaSem sig :=
  ((a.slice (Rect.unit (s := S8) ![k.val] S1.size (inb_s8 k))).squeeze S_ squeezes_S1_S_ : DmaSems sig S_).sem
abbrev s5 (i : Fin 5) : DmaSem sig :=
  ((cc0_scratch3.slice (Rect.unit (s := S5) ![i.val] S1.size (inb_s5 i))).squeeze S_ squeezes_S1_S_ : DmaSems sig S_).sem
abbrev barS : Sem sig := (SemArray.scalar (sig.barrier 0 rfl) : Sems sig S_).sem
/-- The load of a slot, the store of a slot complete on the slot's own semaphore. -/
abbrev ldS (s : Fin 2) : DmaSem sig := s5 ⟨s.val, by omega⟩
abbrev stS (s : Fin 2) : DmaSem sig := s5 ⟨3 + s.val, by omega⟩

/-! ## The devices the transfers name, as printed -/

/-- The device each transfer along `y` is addressed to, chunk by chunk, -/
abbrev yDev (c : Dev nD) : Fin 8 → Dev nD
  | 0 => ⟨k0_dev4 c, k0_dev4_lt c⟩
  | 1 => ⟨k0_dev5 c, k0_dev5_lt c⟩
  | 2 => ⟨k0_dev6 c, k0_dev6_lt c⟩
  | 3 => ⟨k0_dev7 c, k0_dev7_lt c⟩
  | 4 => ⟨k0_dev8 c, k0_dev8_lt c⟩
  | 5 => ⟨k0_dev9 c, k0_dev9_lt c⟩
  | 6 => ⟨k0_dev10 c, k0_dev10_lt c⟩
  | 7 => ⟨k0_dev11 c, k0_dev11_lt c⟩
/-- along `x`, -/
abbrev xDev (c : Dev nD) : Fin 8 → Dev nD
  | 0 => ⟨k0_dev12 c, k0_dev12_lt c⟩
  | 1 => ⟨k0_dev14 c, k0_dev14_lt c⟩
  | 2 => ⟨k0_dev16 c, k0_dev16_lt c⟩
  | 3 => ⟨k0_dev20 c, k0_dev20_lt c⟩
  | 4 => ⟨k0_dev24 c, k0_dev24_lt c⟩
  | 5 => ⟨k0_dev28 c, k0_dev28_lt c⟩
  | 6 => ⟨k0_dev32 c, k0_dev32_lt c⟩
  | 7 => ⟨k0_dev36 c, k0_dev36_lt c⟩
/-- along `z`, -/
abbrev zDev (c : Dev nD) : Fin 8 → Dev nD
  | 0 => ⟨k0_dev13 c, k0_dev13_lt c⟩
  | 1 => ⟨k0_dev15 c, k0_dev15_lt c⟩
  | 2 => ⟨k0_dev17 c, k0_dev17_lt c⟩
  | 3 => ⟨k0_dev21 c, k0_dev21_lt c⟩
  | 4 => ⟨k0_dev25 c, k0_dev25_lt c⟩
  | 5 => ⟨k0_dev29 c, k0_dev29_lt c⟩
  | 6 => ⟨k0_dev33 c, k0_dev33_lt c⟩
  | 7 => ⟨k0_dev37 c, k0_dev37_lt c⟩
/-- the one a half chunk is passed on to along `z`, -/
abbrev zfDev (c : Dev nD) : Fin 8 → Dev nD
  | 0 => ⟨k0_dev18 c, k0_dev18_lt c⟩
  | 1 => ⟨k0_dev22 c, k0_dev22_lt c⟩
  | 2 => ⟨k0_dev26 c, k0_dev26_lt c⟩
  | 3 => ⟨k0_dev30 c, k0_dev30_lt c⟩
  | 4 => ⟨k0_dev34 c, k0_dev34_lt c⟩
  | 5 => ⟨k0_dev38 c, k0_dev38_lt c⟩
  | 6 => ⟨k0_dev40 c, k0_dev40_lt c⟩
  | 7 => ⟨k0_dev42 c, k0_dev42_lt c⟩
/-- and along `x`. -/
abbrev xfDev (c : Dev nD) : Fin 8 → Dev nD
  | 0 => ⟨k0_dev19 c, k0_dev19_lt c⟩
  | 1 => ⟨k0_dev23 c, k0_dev23_lt c⟩
  | 2 => ⟨k0_dev27 c, k0_dev27_lt c⟩
  | 3 => ⟨k0_dev31 c, k0_dev31_lt c⟩
  | 4 => ⟨k0_dev35 c, k0_dev35_lt c⟩
  | 5 => ⟨k0_dev39 c, k0_dev39_lt c⟩
  | 6 => ⟨k0_dev41 c, k0_dev41_lt c⟩
  | 7 => ⟨k0_dev43 c, k0_dev43_lt c⟩

/-- The value a chunk stores, as the printed body computes it at that chunk. -/
abbrev payF (a : Vec F S1x128x4096 .f32) (b : Vec F S128x4096 .f32) (g : Vec F S4096 .f32) : Fin 8 → FVec F S1x128x4096 .f32
  | 0 => k0_pay2 (k0_pay1 a b g)
  | 1 => k0_pay3 a b g
  | 2 => k0_pay6 (k0_pay4 a b) (k0_pay5 g)
  | 3 => k0_pay8 (k0_pay7 a b g)
  | 4 => k0_pay10 (k0_pay9 a b g)
  | 5 => k0_pay12 (k0_pay11 a b g)
  | 6 => k0_pay13 a b g
  | 7 => k0_pay14 a b g

/-! ## The pieces of the body -/

/-- The entry handshake: one unit to each of the three partners, three units awaited. -/
def barP (c : Dev nD) : Pr (F := F) PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32

/-- Chunk `k` of the partner's half leaves along `y`. -/
def ySend (c : Dev nD) (k : Fin 8) : Pr (F := F) PUnit :=
  Prog.lift (.enqueueDma (pY c k) (.remote (Dev.tc (yDev c k)) (rv k) (.dma (s8 cc0_scratch4 k))) (.dma (s8 cc0_scratch5 k))
    ((View.wordExact_bits rfl).reshape _ _) (View.wordExact_bits rfl) ⟨⟨rfl, Or.inl rfl⟩, trivial⟩)

/-- Chunk `k` of the own half is loaded into its slot. -/
def aLoad (c : Dev nD) (k : Fin 8) : Pr (F := F) PUnit :=
  Prog.lift (.enqueueDma (pA c k) (.here (aS (sl k))) (.dma (ldS (sl k)))
    ((View.wordExact_bits rfl).reshape _ _) ((View.wordExact_bits rfl).reshape _ _) ⟨Or.inl rfl, trivial⟩)

/-- Chunk `k` has arrived along `y` and is loaded. -/
def bLoad (c : Dev nD) (k : Fin 8) : Pr (F := F) PUnit := do
  Prog.lift (.waitDma2 (s8 cc0_scratch5 k) (pY c k) (rv k) ((View.wordExact_bits rfl).reshape _ _) (View.wordExact_bits rfl))
  Prog.lift (.enqueueDma (rv k) (.here bM) (.dma (s5 2)) (View.wordExact_bits rfl) (Memref.isWhole_whole _).wordExact ⟨Or.inl rfl, trivial⟩)

/-- The two sends and the store of chunk `k`'s result have left its slot. -/
def retire (c : Dev nD) (k : Fin 8) : Pr (F := F) PUnit := do
  Prog.lift (.waitDma2 (s8 cc0_scratch6 k) (outO c k) (oS (sl k)) (View.wordExact_bits rfl) ((View.wordExact_bits rfl).reshape _ _))
  Prog.lift (.waitDma2 (s8 cc0_scratch8 k) (outO c k) (oS (sl k)) (View.wordExact_bits rfl) ((View.wordExact_bits rfl).reshape _ _))
  Prog.lift (.waitDma2 (stS (sl k)) (oS (sl k)) (outO c k) ((View.wordExact_bits rfl).reshape _ _) (View.wordExact_bits rfl))

/-- Both halves of chunk `k` are in; its result goes to its slot. -/
def comp (c : Dev nD) (k : Fin 8) : Pr (F := F) PUnit := do
  Prog.lift (.waitDma2 (ldS (sl k)) (pA c k) (aS (sl k)) ((View.wordExact_bits rfl).reshape _ _) ((View.wordExact_bits rfl).reshape _ _))
  Prog.lift (.waitDma2 (s5 2) (rv k) bM (View.wordExact_bits rfl) (Memref.isWhole_whole _).wordExact)
  let a : Vec F S1x128x4096 .f32 ← Prog.lift (.load aM (slR (sl k)).toLoadRect (View.loadsAt_vmem h_S1x128x4096))
  let b : Vec F S128x4096 .f32 ← Prog.lift (.load bM (Rect.unit (s := S128x4096) ![0, 0] S128x4096.size inb_S128x4096_S128x4096_0_0).toLoadRect (View.loadsAt_vmem h_S128x4096))
  let g : Vec F S4096 .f32 ← Prog.lift (.load gM (Rect.unit (s := S4096) ![0] S4096.size inb_S4096_S4096_0).toLoadRect (View.loadsAt_vmem h_S4096))
  let o : Vec F S1x128x4096 .f32 ← Prog.lift (.load oM (slR (sl k)).toLoadRect (View.loadsAt_vmem h_S1x128x4096))
  Prog.lift (.store oM (slR (sl k)) (payF a b g k) Finset.univ (View.stores_vmem_bits_univ h_S1x128x4096 rfl) (.inl rfl))

/-- Chunk `k`'s result leaves along `x`, along `z` and to the own result. -/
def oSend (c : Dev nD) (k : Fin 8) : Pr (F := F) PUnit := do
  Prog.lift (.enqueueDma (oS (sl k)) (.remote (Dev.tc (xDev c k)) (outO c k) (.dma (s8 cc0_scratch6 k))) (.dma (s8 cc0_scratch7 k))
    ((View.wordExact_bits rfl).reshape _ _) (View.wordExact_bits rfl) ⟨⟨rfl, Or.inl rfl⟩, trivial⟩)
  Prog.lift (.enqueueDma (oS (sl k)) (.remote (Dev.tc (zDev c k)) (outO c k) (.dma (s8 cc0_scratch8 k))) (.dma (s8 cc0_scratch9 k))
    ((View.wordExact_bits rfl).reshape _ _) (View.wordExact_bits rfl) ⟨⟨rfl, Or.inl rfl⟩, trivial⟩)
  Prog.lift (.enqueueDma (oS (sl k)) (.here (outO c k)) (.dma (stS (sl k))) ((View.wordExact_bits rfl).reshape _ _) (View.wordExact_bits rfl) ⟨Or.inl rfl, trivial⟩)

/-- The `x` and the `z` partner's chunk `k` has arrived; half of each is passed on along the other axis. -/
def fwd (c : Dev nD) (k : Fin 8) : Pr (F := F) PUnit := do
  Prog.lift (.waitDma2 (s8 cc0_scratch7 k) (oS 0) (outX c k) ((View.wordExact_bits rfl).reshape _ _) (View.wordExact_bits rfl))
  Prog.lift (.enqueueDma (fwZ c k) (.remote (Dev.tc (zfDev c k)) (fwZ c k) (.dma (s8 cc0_scratch12 k))) (.dma (s8 cc0_scratch13 k))
    (View.wordExact_bits rfl) (View.wordExact_bits rfl) ⟨⟨rfl, Or.inl rfl⟩, trivial⟩)
  Prog.lift (.waitDma2 (s8 cc0_scratch9 k) (oS 0) (outZ c k) ((View.wordExact_bits rfl).reshape _ _) (View.wordExact_bits rfl))
  Prog.lift (.enqueueDma (fwX c k) (.remote (Dev.tc (xfDev c k)) (fwX c k) (.dma (s8 cc0_scratch10 k))) (.dma (s8 cc0_scratch11 k))
    (View.wordExact_bits rfl) (View.wordExact_bits rfl) ⟨⟨rfl, Or.inl rfl⟩, trivial⟩)

/-- At the end: chunk `k`'s two passed-on halves have arrived and its transfer along `y` has left; -/
def tailR (c : Dev nD) (k : Fin 8) : Pr (F := F) PUnit := do
  Prog.lift (.waitDma2 (s8 cc0_scratch13 k) oH (inZ c k) ((View.wordExact_bits rfl).reshape _ _) (View.wordExact_bits rfl))
  Prog.lift (.waitDma2 (s8 cc0_scratch11 k) oH (inX c k) ((View.wordExact_bits rfl).reshape _ _) (View.wordExact_bits rfl))
  Prog.lift (.waitDma2 (s8 cc0_scratch4 k) (rv k) (pY c k) (View.wordExact_bits rfl) ((View.wordExact_bits rfl).reshape _ _))

/-- its passed-on halves have left. -/
def tailS (c : Dev nD) (k : Fin 8) : Pr (F := F) PUnit := do
  Prog.lift (.waitDma2 (s8 cc0_scratch12 k) (fwZ c k) (fwZ c k) (View.wordExact_bits rfl) (View.wordExact_bits rfl))
  Prog.lift (.waitDma2 (s8 cc0_scratch10 k) (fwX c k) (fwX c k) (View.wordExact_bits rfl) (View.wordExact_bits rfl))

/-- The phase of a chunk whose slot is free from the start, -/
def phaseA (c : Dev nD) (k k1 : Fin 8) : Pr (F := F) PUnit := do
  aLoad c k1; bLoad c k; comp c k; oSend c k
/-- of a chunk whose slot chunk `k2` had before it and during which chunk `k2` is passed on, -/
def phaseB (c : Dev nD) (k k2 : Fin 8) : Pr (F := F) PUnit := do
  bLoad c k; retire c k2; comp c k; oSend c k; fwd c k2

/-- The body after it has read its device. -/
def prog (c : Dev nD) : Pr (F := F) PUnit := do
  barP c
  ySend c 0; ySend c 1; ySend c 2; ySend c 3; ySend c 4; ySend c 5; ySend c 6; ySend c 7
  aLoad c 0
  phaseA c 0 1; phaseA c 1 2
  aLoad c 3; phaseB c 2 0
  aLoad c 4; phaseB c 3 1
  aLoad c 5; phaseB c 4 2
  aLoad c 6; phaseB c 5 3
  aLoad c 7; phaseB c 6 4
  phaseB c 7 5
  fwd c 6; fwd c 7
  tailR c 0; tailR c 1; tailR c 2; tailR c 3; tailR c 4; tailR c 5; tailR c 6; tailR c 7
  tailS c 0; tailS c 1; tailS c 2; tailS c 3; tailS c 4; tailS c 5; tailS c 6; tailS c 7
  retire c 6; retire c 7

set_option maxRecDepth 65536 in
set_option maxHeartbeats 4000000 in
/-- The printed body is the sequence of the pieces. -/
theorem cc0_body_eq :
    cc0_body (F := F) pM (Memref.isWhole_whole _) gM (Memref.isWhole_whole _) outM (Memref.isWhole_whole _) rvM (Memref.isWhole_whole _)
      aM (Memref.isWhole_whole _) bM (Memref.isWhole_whole _) oM (Memref.isWhole_whole _)
      cc0_scratch3 cc0_scratch4 cc0_scratch5 cc0_scratch6 cc0_scratch7 cc0_scratch8 cc0_scratch9 cc0_scratch10 cc0_scratch11 cc0_scratch12 cc0_scratch13
    = .op .deviceId fun c => prog c := by
  rw [cc0_body_eq_skeleton]
  unfold prog
  rfl

end Cert.KernelIdeal.Run

end
-- ==== Proof.Mesh.lean ====
/-
The mesh and the contents. Which device every transfer names, which rows every slice names, and, for every
buffer, the contents the run leaves in it as one function of the launch memory.
-/
module

public import proofs.«01_k».proof.Proof.Body
public import Idealize.ShloMosaic.Lib.ValueLayout
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Run

open Cert.KernelIdeal Cert.KernelIdeal.Gen
open Idealize.ShloMosaic Idealize.ShloMosaic.TcCoe Idealize.SL.Sem
open Idealize.ShloMosaic.ValueIdx

variable {F : FTy → Type} [FloatOps F]

/-! ## The partners -/

set_option backward.proofsInPublic true in
/-- The partner along `y`, -/
def yPeer (c : Dev nD) : Dev nD := ⟨(8 * (c.val / 8) + (c.val % 4) + 4) - 4 * ((c.val / 4) % 2), by have := c.isLt; have : nD = 16 := rfl; omega⟩
set_option backward.proofsInPublic true in
/-- along `x`, -/
def xPeer (c : Dev nD) : Dev nD := ⟨(4 * ((c.val / 4) % 2) + (c.val % 4) + 8) - 8 * (c.val / 8), by have := c.isLt; have : nD = 16 := rfl; omega⟩
set_option backward.proofsInPublic true in
/-- along `z`, -/
def zPeer (c : Dev nD) : Dev nD := ⟨(8 * (c.val / 8) + 4 * ((c.val / 4) % 2) + 2 * ((c.val % 4) / 2) + 1) - (c.val % 2), by have := c.isLt; have : nD = 16 := rfl; omega⟩

theorem yPeer_yPeer (c : Dev nD) : yPeer (yPeer c) = c := by revert c; decide
theorem xPeer_xPeer (c : Dev nD) : xPeer (xPeer c) = c := by revert c; decide
theorem zPeer_zPeer (c : Dev nD) : zPeer (zPeer c) = c := by revert c; decide

theorem yDev_eq (c : Dev nD) (k : Fin 8) : yDev c k = yPeer c := by revert c k; decide +kernel
theorem xDev_eq (c : Dev nD) (k : Fin 8) : xDev c k = xPeer c := by revert c k; decide +kernel
theorem zDev_eq (c : Dev nD) (k : Fin 8) : zDev c k = zPeer c := by revert c k; decide +kernel
theorem zfDev_eq (c : Dev nD) (k : Fin 8) : zfDev c k = zPeer c := by revert c k; decide +kernel
theorem xfDev_eq (c : Dev nD) (k : Fin 8) : xfDev c k = xPeer c := by revert c k; decide +kernel
theorem barDev1_eq (c : Dev nD) : (⟨k0_dev1 c, k0_dev1_lt c⟩ : Dev nD) = yPeer c := by revert c; decide +kernel
theorem barDev2_eq (c : Dev nD) : (⟨k0_dev2 c, k0_dev2_lt c⟩ : Dev nD) = xPeer c := by revert c; decide +kernel
theorem barDev3_eq (c : Dev nD) : (⟨k0_dev3 c, k0_dev3_lt c⟩ : Dev nD) = zPeer c := by revert c; decide +kernel

/-- The quarters of the result, numbered relative to device `c`: `0` its own, `1` the `z` partner's, `2` the `x`
    partner's, `3` the one across both axes; -/
def qn (c : Dev nD) (q : Fin 4) : Fin 4 := ⟨2 * ((c.val / 8 + q.val / 2) % 2) + (c.val + q.val) % 2, by omega⟩
/-- the first row of each, -/
abbrev qo (c : Dev nD) (q : Fin 4) : ℕ := 1024 * (qn c q).val
/-- and the first row of the device's own quarter within its half of `partial`. -/
abbrev bs (c : Dev nD) : ℕ := 4096 * (c.val / 4 % 2) + qo c 0

theorem qn_qn (c : Dev nD) (q : Fin 4) : qn c (qn c q) = q := by revert c q; decide +kernel
/-- The quarters in the relative numbering are the four quarters. -/
def qEquiv (c : Dev nD) : Fin 4 ≃ Fin 4 := ⟨qn c, qn c, qn_qn c, qn_qn c⟩

theorem qn_x (c : Dev nD) : qn (xPeer c) 2 = qn c 0 ∧ qn (xPeer c) 0 = qn c 2 ∧ qn (xPeer c) 3 = qn c 1 ∧ qn (xPeer c) 1 = qn c 3 := by
  revert c; decide +kernel
theorem qn_z (c : Dev nD) : qn (zPeer c) 1 = qn c 0 ∧ qn (zPeer c) 0 = qn c 1 ∧ qn (zPeer c) 3 = qn c 2 ∧ qn (zPeer c) 2 = qn c 3 := by
  revert c; decide +kernel
theorem bs_y (c : Dev nD) : qn (yPeer c) 0 = qn c 0 := by revert c; decide +kernel

set_option backward.proofsInPublic true in
/-- The device of `c`'s group of four that computes quarter `q`. -/
def own (c : Dev nD) (q : ℕ) : Dev nD := ⟨8 * (q % 4 / 2) + 4 * (c.val / 4 % 2) + 2 * (c.val % 4 / 2) + q % 2, by have : nD = 16 := rfl; omega⟩
theorem own_self (c : Dev nD) : own c (qn c 0).val = c := by revert c; decide +kernel
theorem own_z (c : Dev nD) : own c (qn c 1).val = zPeer c := by revert c; decide +kernel
theorem own_x (c : Dev nD) : own c (qn c 2).val = xPeer c := by revert c; decide +kernel
theorem own_xPeer (c : Dev nD) (q : ℕ) : own (xPeer c) q = own c q := by
  have h : ∀ c : Dev nD, (xPeer c).val / 4 % 2 = c.val / 4 % 2 ∧ (xPeer c).val % 4 = c.val % 4 := by decide +kernel
  obtain ⟨h1, h2⟩ := h c
  simp only [own, h1, h2]
theorem own_zPeer (c : Dev nD) (q : ℕ) : own (zPeer c) q = own c q := by
  have h : ∀ c : Dev nD, (zPeer c).val / 4 % 2 = c.val / 4 % 2 ∧ (zPeer c).val % 4 / 2 = c.val % 4 / 2 := by decide +kernel
  obtain ⟨h1, h2⟩ := h c
  simp only [own, h1, h2]

/-! ## Bands of rows -/

/-- The elements whose coordinate on axis `a` is one of the `n` from `B` on. -/
def band {s : Shape} (a : Fin s.rank) (B n : ℕ) : Finset s.Idx := Finset.univ.filter fun i => B ≤ (i a).val ∧ (i a).val < B + n

theorem mem_band {s : Shape} {a : Fin s.rank} {B n : ℕ} {i : s.Idx} : i ∈ band a B n ↔ B ≤ (i a).val ∧ (i a).val < B + n := by
  simp [band]

/-- A rectangle that is whole on every axis but `a` is a band. -/
theorem set_unit_band {s : Shape} (a : Fin s.rank) (B n : ℕ) {off size : Fin s.rank → ℕ} {inb} (hB : off a = B) (hn : size a = n)
    (h : ∀ b, b ≠ a → off b = 0 ∧ size b = s.size b) : (Rect.unit (s := s) off size inb).set = band a B n := by
  ext i
  rw [Rect.mem_set_unit, mem_band]
  constructor
  · intro hi; have := hi a; rw [hB, hn] at this; exact this
  · intro hi b
    by_cases hb : b = a
    · subst hb; rw [hB, hn]; exact hi
    · obtain ⟨h1, h2⟩ := h b hb
      rw [h1, h2]; exact ⟨Nat.zero_le _, by rw [Nat.zero_add]; exact (i b).isLt⟩

theorem band_disjoint {s : Shape} (a : Fin s.rank) {B n B' n' : ℕ} (h : B + n ≤ B' ∨ B' + n' ≤ B) : Disjoint (band (s := s) a B n) (band a B' n') := by
  rw [Finset.disjoint_left]; intro i hi hi'
  rw [mem_band] at hi hi'; omega

theorem band_subset {s : Shape} (a : Fin s.rank) {B n B' n' : ℕ} (h : B' ≤ B ∧ B + n ≤ B' + n') : band (s := s) a B n ⊆ band a B' n' := by
  intro i hi; rw [mem_band] at hi ⊢; omega

theorem band_union {s : Shape} (a : Fin s.rank) (B n n' : ℕ) : band (s := s) a B n ∪ band a (B + n) n' = band a B (n + n') := by
  ext i; rw [Finset.mem_union, mem_band, mem_band, mem_band]; omega

theorem band_univ {s : Shape} (a : Fin s.rank) {n : ℕ} (h : s.size a = n) : band (s := s) a 0 n = Finset.univ := by
  ext i; rw [mem_band]; simp only [Finset.mem_univ, iff_true]; have := (i a).isLt; omega

/-! ### The sets of the slices -/

theorem set_rv (k : Fin 8) : (rv k).view.set = band (s := S1024x4096) 0 (128 * k.val) 128 := by
  refine (View.set_slice_whole main_v1_1 _).trans (set_unit_band (s := S1024x4096) 0 _ _ rfl rfl ?_)
  intro b hb; fin_cases b <;> first | exact absurd rfl hb | exact ⟨rfl, rfl⟩

/-- A slice of the result that is whole along the second axis. -/
theorem set_out {off size : Fin 2 → ℕ} {inb} (hst) (B n : ℕ) (h0 : off = ![B, 0]) (hn : size 0 = n) (h1 : size 1 = 4096) :
    (outM.slice (Rect.unit (s := S4096x4096) off size inb) hst).view.set = band (s := S4096x4096) 0 B n := by
  refine (View.set_slice_whole main_v1_0 _).trans (set_unit_band (s := S4096x4096) 0 _ _ (by rw [h0]; rfl) hn ?_)
  subst h0
  intro b hb; fin_cases b <;> first | exact absurd rfl hb | exact ⟨rfl, h1⟩

theorem off3 (c : Dev nD) (k : Fin 8) : k0_off3 c (wd k) = ![qo c 0 + 128 * k.val, 0] := by revert c k; decide +kernel
theorem off4 (c : Dev nD) (k : Fin 8) : k0_off4 c (wd k) = ![qo c 2 + 128 * k.val, 0] := by revert c k; decide +kernel
theorem off5 (c : Dev nD) (k : Fin 8) : k0_off5 c (wd k) = ![qo c 2 + 128 * k.val, 0] := by revert c k; decide +kernel
theorem off6 (c : Dev nD) (k : Fin 8) : k0_off6 c (wd k) = ![qo c 1 + 128 * k.val, 0] := by revert c k; decide +kernel
theorem off7 (c : Dev nD) (k : Fin 8) : k0_off7 c (wd k) = ![qo c 1 + 128 * k.val + 64, 0] := by revert c k; decide +kernel
theorem off8 (c : Dev nD) (k : Fin 8) : k0_off8 c (wd k) = ![qo c 3 + 128 * k.val, 0] := by revert c k; decide +kernel
theorem off9 (c : Dev nD) (k : Fin 8) : k0_off9 c (wd k) = ![qo c 3 + 128 * k.val + 64, 0] := by revert c k; decide +kernel
theorem off2 (c : Dev nD) (k : Fin 8) : k0_off2 c (wd k) = ![0, bs c + 128 * k.val, 0] := by revert c k; decide +kernel
theorem off1 (c : Dev nD) (k : Fin 8) : k0_off1 c (wd k) = ![0, bs (yPeer c) + 128 * k.val, 0] := by revert c k; decide +kernel

theorem set_outO (c : Dev nD) (k : Fin 8) : (outO c k).view.set = band (s := S4096x4096) 0 (qo c 0 + 128 * k.val) 128 := set_out _ _ _ (off3 c k) rfl rfl
theorem set_fwZ (c : Dev nD) (k : Fin 8) : (fwZ c k).view.set = band (s := S4096x4096) 0 (qo c 2 + 128 * k.val) 64 := set_out _ _ _ (off5 c k) rfl rfl
theorem set_fwX (c : Dev nD) (k : Fin 8) : (fwX c k).view.set = band (s := S4096x4096) 0 (qo c 1 + 128 * k.val + 64) 64 := set_out _ _ _ (off7 c k) rfl rfl

/-- A chunk of `partial`'s block, its unit axis dropped. -/
theorem set_p {off : Fin 3 → ℕ} {inb} (hst) (B : ℕ) (h0 : off = ![0, B, 0]) :
    ((pM.slice (Rect.unit (s := S1x8192x4096) off S1x128x4096.size inb) hst).squeeze S128x4096 squeezes_S1x128x4096_S128x4096).view.set
      = band (s := S1x8192x4096) 1 B 128 := by
  refine (View.set_reshape _ _).trans ((View.set_slice_whole main_arg0 _).trans (set_unit_band (s := S1x8192x4096) 1 _ _ (by rw [h0]; rfl) rfl ?_))
  subst h0
  intro b hb; fin_cases b <;> first | exact absurd rfl hb | exact ⟨rfl, rfl⟩
theorem set_pY (c : Dev nD) (k : Fin 8) : (pY c k).view.set = band (s := S1x8192x4096) 1 (bs (yPeer c) + 128 * k.val) 128 := set_p _ _ (off1 c k)
theorem set_pA (c : Dev nD) (k : Fin 8) : (pA c k).view.set = band (s := S1x8192x4096) 1 (bs c + 128 * k.val) 128 := set_p _ _ (off2 c k)

theorem set_slR (s : Fin 2) : (slR s).set = band (s := S2x128x4096) 0 s.val 1 := by
  refine set_unit_band (s := S2x128x4096) 0 _ _ rfl rfl ?_
  intro b hb; fin_cases b <;> first | exact absurd rfl hb | exact ⟨rfl, rfl⟩
theorem set_aS (s : Fin 2) : (aS s).view.set = band (s := S2x128x4096) 0 s.val 1 :=
  (View.set_reshape _ _).trans ((View.set_slice_whole cc0_scratch0 _).trans (set_slR s))
theorem set_oS (s : Fin 2) : (oS s).view.set = band (s := S2x128x4096) 0 s.val 1 :=
  (View.set_reshape _ _).trans ((View.set_slice_whole cc0_scratch2 _).trans (set_slR s))

/-! ### The elements under the slices -/

theorem emb_rv (k : Fin 8) (j : S128x4096.Idx) :
    ((rv k).view.emb j 0).val = 128 * k.val + (j 0).val ∧ ((rv k).view.emb j 1).val = (j 1).val := by
  constructor
  · show 128 * k.val + 1 * (j 0).val = _; omega
  · show 0 + 1 * (j 1).val = _; omega

theorem emb_out {off size : Fin 2 → ℕ} {inb} (hst) (B : ℕ) (h0 : off = ![B, 0]) (j : (⟨2, size⟩ : Shape).Idx) :
    ((outM.slice (Rect.unit (s := S4096x4096) off size inb) hst).view.emb j 0).val = B + (j 0).val
      ∧ ((outM.slice (Rect.unit (s := S4096x4096) off size inb) hst).view.emb j 1).val = (j 1).val := by
  subst h0
  constructor
  · show B + 1 * (j 0).val = _; omega
  · show 0 + 1 * (j 1).val = _; omega

/-- Dropping a leading unit axis of a 128-row block: the index under `j`. -/
theorem squeeze_idx (h : S128x4096.numel = (⟨3, S1x128x4096.size⟩ : Shape).numel) (j : S128x4096.Idx) :
    (Shape.reshapeEquiv h j 0).val = 0 ∧ (Shape.reshapeEquiv h j 1).val = (j 0).val ∧ (Shape.reshapeEquiv h j 2).val = (j 1).val := by
  obtain ⟨a, b, rfl⟩ : ∃ (a : Fin 128) (b : Fin 4096), j = ix2 a b := ⟨j 0, j 1, eq_ix2 j⟩
  have e : Shape.reshapeEquiv h (ix2 a b) = ix3 (⟨0, Nat.one_pos⟩ : Fin 1) a b := reshapeEquiv_ix2_1ab h a b
  rw [e]
  exact ⟨rfl, rfl, rfl⟩

theorem emb_p {off : Fin 3 → ℕ} {inb} (hst) (B : ℕ) (h0 : off = ![0, B, 0]) (j : S128x4096.Idx) :
    (((pM.slice (Rect.unit (s := S1x8192x4096) off S1x128x4096.size inb) hst).squeeze S128x4096 squeezes_S1x128x4096_S128x4096).view.emb j 1).val = B + (j 0).val
      ∧ (((pM.slice (Rect.unit (s := S1x8192x4096) off S1x128x4096.size inb) hst).squeeze S128x4096 squeezes_S1x128x4096_S128x4096).view.emb j 2).val = (j 1).val := by
  subst h0
  obtain ⟨h0, h1, h2⟩ := squeeze_idx (by decide) j
  constructor
  · show B + 1 * (Shape.reshapeEquiv _ j 1).val = _; omega
  · show 0 + 1 * (Shape.reshapeEquiv _ j 2).val = _; omega

theorem emb_aS (s : Fin 2) (j : S128x4096.Idx) : ((aS s).view.emb j 1).val = (j 0).val ∧ ((aS s).view.emb j 2).val = (j 1).val := by
  obtain ⟨h0, h1, h2⟩ := squeeze_idx (by decide) j
  constructor
  · show 0 + 1 * (Shape.reshapeEquiv _ j 1).val = _; omega
  · show 0 + 1 * (Shape.reshapeEquiv _ j 2).val = _; omega
theorem emb_oS (s : Fin 2) (j : S128x4096.Idx) : ((oS s).view.emb j 1).val = (j 0).val ∧ ((oS s).view.emb j 2).val = (j 1).val := by
  obtain ⟨h0, h1, h2⟩ := squeeze_idx (by decide) j
  constructor
  · show 0 + 1 * (Shape.reshapeEquiv _ j 1).val = _; omega
  · show 0 + 1 * (Shape.reshapeEquiv _ j 2).val = _; omega

end Cert.KernelIdeal.Run

end
-- ==== Proof.Contents.lean ====
/-
The contents. For every buffer of a device, what the run leaves in it, as one function of the launch memory; and
that every copy of the kernel writes these contents where it writes.
-/
module

public import proofs.«01_k».proof.Proof.Mesh

@[expose] public section

noncomputable section

namespace Cert.KernelIdeal.Run

open Cert.KernelIdeal Cert.KernelIdeal.Gen
open Idealize.ShloMosaic Idealize.ShloMosaic.TcCoe Idealize.SL.Sem
open Idealize.ShloMosaic.ValueIdx

variable {F : FTy → Type} [FloatOps F]

/-- Natural numbers as coordinates; every use is within the bound. -/
abbrev fo (n : ℕ) (h : 0 < n := by decide) (i : ℕ) : Fin n := ⟨i % n, Nat.mod_lt _ h⟩

variable (m : (ℓ : Loc nD τ sig) → Buf (Elt F) ℓ)

/-- `partial`'s block and `gamma` on device `c`, -/
abbrev pm (c : Dev nD) : Vec F S1x8192x4096 .f32 := m ((c : Thread nD τ).loc main_arg0)
abbrev gm (c : Dev nD) : Vec F S4096 .f32 := m ((c : Thread nD τ).loc main_arg1)
/-- the block's element at row `r`, column `j`. -/
def pN (c : Dev nD) (r j : ℕ) : Elt F .f32 := pm m c (ix3 (0 : Fin 1) (fo 8192 (i := r)) (fo 4096 (i := j)))

/-- Chunk `k` of the own half, -/
def aV (c : Dev nD) (k : Fin 8) : Vec F S1x128x4096 .f32 := fun i => pN m c (bs c + 128 * k.val + (i 1).val) (i 2).val
/-- of the half received along `y`, -/
def bV (c : Dev nD) (k : Fin 8) : Vec F S128x4096 .f32 := fun i => pN m (yPeer c) (bs c + 128 * k.val + (i 0).val) (i 1).val
/-- and of the result device `c` computes, with its element at row `r`, column `j`. -/
def res (c : Dev nD) (k : Fin 8) : Vec F S1x128x4096 .f32 := payF (aV m c k) (bV m c k) (gm m c) k
def resN (c : Dev nD) (k : Fin 8) (r j : ℕ) : Elt F .f32 := res m c k (ix3 (0 : Fin 1) (fo 128 (i := r)) (fo 4096 (i := j)))

/-- What the landing buffer holds after the exchange along `y`, -/
def recvF (c : Dev nD) : Vec F S1024x4096 .f32 := fun i => pN m (yPeer c) (bs c + (i 0).val) (i 1).val
/-- a slot of the own half, the buffer of the partner's half, a slot of the result while chunk `k` uses it, -/
def aF (c : Dev nD) (k : Fin 8) : Vec F S2x128x4096 .f32 := fun i => pN m c (bs c + 128 * k.val + (i 1).val) (i 2).val
def oF (c : Dev nD) (k : Fin 8) : Vec F S2x128x4096 .f32 := fun i => resN m c k (i 1).val (i 2).val
/-- and the result: each quarter as the device of the group that owns it computes it. -/
def outN (c : Dev nD) (r j : ℕ) : Elt F .f32 := resN m (own c (r / 1024)) (fo 8 (i := r % 1024 / 128)) (r % 128) j
def outF (c : Dev nD) : Vec F S4096x4096 .f32 := fun i => outN m c (i 0).val (i 1).val

theorem outF_x (c : Dev nD) : outF m (xPeer c) = outF m c := by unfold outF outN; simp only [own_xPeer]
theorem outF_z (c : Dev nD) : outF m (zPeer c) = outF m c := by unfold outF outN; simp only [own_zPeer]

/-- The rows of the own quarter hold the device's own chunks. -/
theorem outN_own (c : Dev nD) (k : Fin 8) (r j : ℕ) (hr : r < 128) : outN m c (qo c 0 + 128 * k.val + r) j = resN m c k r j := by
  have hk := k.isLt
  unfold outN
  have h1 : (qo c 0 + 128 * k.val + r) / 1024 = (qn c 0).val := by show (1024 * (qn c 0).val + 128 * k.val + r) / 1024 = _; omega
  have h2 : fo 8 (i := (qo c 0 + 128 * k.val + r) % 1024 / 128) = k := by
    apply Fin.ext; show (1024 * (qn c 0).val + 128 * k.val + r) % 1024 / 128 % 8 = k.val; omega
  have h3 : (qo c 0 + 128 * k.val + r) % 128 = r := by show (1024 * (qn c 0).val + 128 * k.val + r) % 128 = r; omega
  rw [h1, h2, h3, own_self]

theorem bs_le (c : Dev nD) : bs c + 1024 ≤ 8192 := by revert c; decide +kernel

/-! ## What the copies write -/

/-- A copy leaves in the elements it writes the contents `ft`, if `ft` reads there as the source reads. -/
theorem landed {sp sp' : Space} {s : Shape} {e : EltTy} (src : Memref sig .tc sp s e) (dst : Memref sig .tc sp' s e)
    (fs : src.view.ty.Contents (Elt F)) (fd ft : dst.view.ty.Contents (Elt F))
    (h : ∀ j, src.view.read (Elt F) fs j = dst.view.read (Elt F) ft j) :
    ∀ i ∈ dst.view.set, dst.view.write (Elt F) fd (src.view.read (Elt F) fs) Finset.univ i = ft i := by
  intro i hi
  obtain ⟨j, -, rfl⟩ := Finset.mem_map.mp hi
  rw [View.write_emb, if_pos (Finset.mem_univ j), h j, View.read_apply, cast_cast, cast_eq]

theorem read_pY (c : Dev nD) (k : Fin 8) (j : S128x4096.Idx) :
    (pY c k).view.read (Elt F) (pm m c) j = (rv k).view.read (Elt F) (recvF m (yPeer c)) j := by
  show pm m c ((pY c k).view.emb j) = recvF m (yPeer c) ((rv k).view.emb j)
  obtain ⟨h1, h2⟩ := emb_p (off := k0_off1 c (wd k)) (inb := k0_off1_inb c k) (fun _ => rfl) _ (off1 c k) j
  obtain ⟨e1, e2⟩ := emb_rv k j
  unfold recvF pN
  rw [yPeer_yPeer, e1, e2]
  congr 1
  rw [eq_ix3 ((pY c k).view.emb j)]
  have hj0 : (j 0).val < 128 := (j 0).isLt
  have hj1 : (j 1).val < 4096 := (j 1).isLt
  have hb := bs_le (yPeer c)
  have hk := k.isLt
  congr 1
  · exact Subsingleton.elim (α := Fin 1) _ _
  · apply Fin.ext; rw [h1]; show _ = _ % 8192; omega
  · apply Fin.ext; rw [h2]; show _ = _ % 4096; omega

theorem read_pA (c : Dev nD) (k : Fin 8) (j : S128x4096.Idx) :
    (pA c k).view.read (Elt F) (pm m c) j = (aS (sl k)).view.read (Elt F) (aF m c k) j := by
  show pm m c ((pA c k).view.emb j) = aF m c k ((aS (sl k)).view.emb j)
  obtain ⟨h1, h2⟩ := emb_p (off := k0_off2 c (wd k)) (inb := k0_off2_inb c k) (fun _ => rfl) _ (off2 c k) j
  obtain ⟨e1, e2⟩ := emb_aS (sl k) j
  unfold aF pN
  rw [e1, e2]
  congr 1
  rw [eq_ix3 ((pA c k).view.emb j)]
  have hj0 : (j 0).val < 128 := (j 0).isLt
  have hj1 : (j 1).val < 4096 := (j 1).isLt
  have hb := bs_le c
  have hk := k.isLt
  congr 1
  · exact Subsingleton.elim (α := Fin 1) _ _
  · apply Fin.ext; rw [h1]; show _ = _ % 8192; omega
  · apply Fin.ext; rw [h2]; show _ = _ % 4096; omega

theorem read_rv (c : Dev nD) (k : Fin 8) (j : S128x4096.Idx) :
    (rv k).view.read (Elt F) (recvF m c) j = bM.view.read (Elt F) (bV m c k) j := by
  show recvF m c ((rv k).view.emb j) = bV m c k j
  obtain ⟨e1, e2⟩ := emb_rv k j
  unfold recvF bV
  rw [e1, e2]
  congr 1
  exact (Nat.add_assoc _ _ _).symm

theorem read_oS (c : Dev nD) (k : Fin 8) (j : S128x4096.Idx) :
    (oS (sl k)).view.read (Elt F) (oF m c k) j = (outO c k).view.read (Elt F) (outF m c) j := by
  show oF m c k ((oS (sl k)).view.emb j) = outF m c ((outO c k).view.emb j)
  obtain ⟨h1, h2⟩ := emb_oS (sl k) j
  obtain ⟨e1, e2⟩ := emb_out (size := S128x4096.size) (inb := k0_off3_inb c k) (fun _ => rfl) _ (off3 c k) j
  unfold oF outF
  rw [h1, h2, e1, e2]
  exact (outN_own m c k _ _ (j 0).isLt).symm

/-! ## What the loads read and the store writes -/

/-- The element of a slot under an index of a load or store through the slot. -/
theorem slR_emb (s : Fin 2) (i : S1x128x4096.Idx) :
    ((slR s).emb i 1).val = (i 1).val ∧ ((slR s).emb i 2).val = (i 2).val := by
  constructor
  · show 0 + 1 * (i 1).val = _; omega
  · show 0 + 1 * (i 2).val = _; omega

theorem load_a (c : Dev nD) (k : Fin 8) : aM.view.readAt (Elt F) (slR (sl k)).toLoadRect (aF m c k) = aV m c k := by
  funext i
  show aF m c k ((slR (sl k)).emb i) = aV m c k i
  obtain ⟨h1, h2⟩ := slR_emb (sl k) i
  unfold aF aV
  rw [h1, h2]

theorem hz2 : (![0, 0] : Fin 2 → ℕ) = fun _ => 0 := funext fun a => by fin_cases a <;> rfl
theorem hz1 : (![0] : Fin 1 → ℕ) = fun _ => 0 := funext fun a => by fin_cases a; rfl

theorem load_b (f : Vec F S128x4096 .f32) :
    bM.view.readAt (Elt F) (Rect.unit (s := S128x4096) ![0, 0] S128x4096.size inb_S128x4096_S128x4096_0_0).toLoadRect f = f :=
  Memref.readAt_unit_zero (Elt F) cc0_scratch1 hz2 _ f
theorem load_g (f : Vec F S4096 .f32) :
    gM.view.readAt (Elt F) (Rect.unit (s := S4096) ![0] S4096.size inb_S4096_S4096_0).toLoadRect f = f :=
  Memref.readAt_unit_zero (Elt F) cc0_stg0_0 hz1 _ f

/-- The store leaves chunk `k`'s result in its slot. -/
theorem store_o (c : Dev nD) (k : Fin 8) (f : Vec F S2x128x4096 .f32) :
    ∀ i ∈ (oM.access (slR (sl k))).set, (oM.access (slR (sl k))).write (Elt F) f (res m c k) Finset.univ i = oF m c k i := by
  intro i hi
  obtain ⟨j, -, rfl⟩ := Finset.mem_map.mp hi
  rw [View.write_emb, if_pos (Finset.mem_univ j), cast_eq]
  show res m c k j = oF m c k ((slR (sl k)).emb j)
  obtain ⟨h1, h2⟩ := slR_emb (sl k) j
  unfold oF resN
  rw [h1, h2]
  have hj1 : (j 1).val < 128 := (j 1).isLt
  have hj2 : (j 2).val < 4096 := (j 2).isLt
  congr 1
  rw [eq_ix3 j]
  congr 1
  · exact Subsingleton.elim (α := Fin 1) _ _
  · apply Fin.ext; show _ = _ % 128; exact (Nat.mod_eq_of_lt hj1).symm
  · apply Fin.ext; show _ = _ % 4096; exact (Nat.mod_eq_of_lt hj2).symm

end Cert.KernelIdeal.Run

end
-- ==== Proof.Proto.lean ====
/-
The protocol. Every device has one barrier cell with three duties, one per partner, and eighty transfer cells, ten
arrays of eight, with one duty each; all of it happens in round 0. A barrier duty hands over the places in the
partner's buffers that the receiver will write; a receive cell hands over the rows that arrived, holding their final
contents; a send cell hands back the share of the source.
-/
module

public import proofs.«01_k».proof.Proof.Contents

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline's copy, the rounds' copy and the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds' copy: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER (F := F) : Emb UB (MT nD τ sig Unit (Elt F) ℕ UU ℕ)).LandsIn (upEmb : UEmb _ (MT nD τ sig Unit (Elt F) ℕ UU ℕ)) := by
  unfold ER; infer_instance
abbrev EC : UEmb Counters (MT nD τ sig Unit (Elt F) ℕ UU ℕ) := countersEmb

/-! ## The cells -/

/-- Names of a device's scheduled semaphores: the barrier, or number `k` of array `j`, the arrays in the kernel's order:
    `0` sends along `y`, `1` receives along `y`, `2 3` along `x`, `4 5` along `z`, `6 7` passed on along `x`, `8 9` passed
    on along `z`. -/
abbrev CI : Type := Option (Fin 10 × Fin 8)

abbrev xs (j : Fin 10) (k : Fin 8) : DmaSem sig := (⟨6 + 8 * j.val + k.val, by omega⟩ : Fin 86)
abbrev csem : CI → SemLoc sig
  | none => .reg barS
  | some (j, k) => .dma (xs j k)
abbrev kcell (c : Dev nD) (i : CI) : GSem nD τ sig := ((c : Thread nD τ), csem i)

/-- The name of a semaphore, if it is a scheduled one. -/
def kind : SemLoc sig → Option CI
  | .reg s => if s = barS then some none else none
  | .dma q => if h : 6 ≤ (show Fin 86 from q).val then
      some (some (⟨((show Fin 86 from q).val - 6) / 8, by have := (show Fin 86 from q).isLt; omega⟩, ⟨((show Fin 86 from q).val - 6) % 8, Nat.mod_lt _ (by decide)⟩)) else none

theorem kind_csem (i : CI) : kind (csem i) = some i := by
  match i with
  | none => rfl
  | some (j, k) => revert j k; decide +kernel

theorem csem_injective : Function.Injective csem := fun i i' h => by
  have := congrArg kind h
  rw [kind_csem, kind_csem] at this
  exact Option.some.inj this

theorem s8_0 (k : Fin 8) : s8 cc0_scratch4 k = xs 0 k := by revert k; decide +kernel
theorem s8_1 (k : Fin 8) : s8 cc0_scratch5 k = xs 1 k := by revert k; decide +kernel
theorem s8_2 (k : Fin 8) : s8 cc0_scratch6 k = xs 2 k := by revert k; decide +kernel
theorem s8_3 (k : Fin 8) : s8 cc0_scratch7 k = xs 3 k := by revert k; decide +kernel
theorem s8_4 (k : Fin 8) : s8 cc0_scratch8 k = xs 4 k := by revert k; decide +kernel
theorem s8_5 (k : Fin 8) : s8 cc0_scratch9 k = xs 5 k := by revert k; decide +kernel
theorem s8_6 (k : Fin 8) : s8 cc0_scratch10 k = xs 6 k := by revert k; decide +kernel
theorem s8_7 (k : Fin 8) : s8 cc0_scratch11 k = xs 7 k := by revert k; decide +kernel
theorem s8_8 (k : Fin 8) : s8 cc0_scratch12 k = xs 8 k := by revert k; decide +kernel
theorem s8_9 (k : Fin 8) : s8 cc0_scratch13 k = xs 9 k := by revert k; decide +kernel

/-- What a transfer of 128 rows and one of 64 rows add to a semaphore. -/
def NB : ℕ := (rv 0).view.dmaCredit
def NH : ℕ := oH.view.dmaCredit
theorem NB_pos : 0 < NB := View.dmaCredit_pos _ (by decide)
theorem NH_pos : 0 < NH := View.dmaCredit_pos _ (by decide)

/-- What one duty of a cell is worth. -/
def amtC : CI → ℕ
  | none => 1
  | some (j, _) => if j.val < 6 then NB else NH
theorem amtC_pos (i : CI) : 0 < amtC i := by
  match i with
  | none => exact Nat.one_pos
  | some (j, k) => show 0 < (if j.val < 6 then NB else NH); split; exacts [NB_pos, NH_pos]

/-! ## Pieces of buffers -/

variable (m : (ℓ : Loc nD τ sig) → Buf (Elt F) ℓ)

/-- Rows `B` to `B + 127` of the block of `partial` on `c`, as launched; -/
def pPt (c : Dev nD) (B : ℕ) : sProp 𝕄 := ((c : Thread nD τ).loc main_arg0) ↦[band (s := S1x8192x4096) 1 B 128]{fullShare} pm m c
/-- chunk `k` of the landing buffer of `c`, -/
def rvPt (c : Dev nD) (k : Fin 8) (f : Vec F S1024x4096 .f32) : sProp 𝕄 :=
  ((c : Thread nD τ).loc main_v1_1) ↦[band (s := S1024x4096) 0 (128 * k.val) 128]{fullShare} f
/-- `n` rows of the result of `c`, from `B` on, -/
def outPt (c : Dev nD) (B n : ℕ) (f : Vec F S4096x4096 .f32) : sProp 𝕄 :=
  ((c : Thread nD τ).loc main_v1_0) ↦[band (s := S4096x4096) 0 B n]{fullShare} f
/-- a share of slot `s` of the computed chunks, -/
def oPt (c : Dev nD) (s : Fin 2) (q : PosShare TreeShare) (f : Vec F S2x128x4096 .f32) : sProp 𝕄 :=
  ((c : Thread nD τ).loc cc0_scratch2) ↦[band (s := S2x128x4096) 0 s.val 1]{q} f
/-- slot `s` of the own chunks, -/
def aPt (c : Dev nD) (s : Fin 2) (f : Vec F S2x128x4096 .f32) : sProp 𝕄 :=
  ((c : Thread nD τ).loc cc0_scratch0) ↦[band (s := S2x128x4096) 0 s.val 1]{fullShare} f
/-- the buffer of the partner's chunk. -/
def bPt (c : Dev nD) (f : Vec F S128x4096 .f32) : sProp 𝕄 := ((c : Thread nD τ).loc cc0_scratch1) ↦{fullShare} f

/-- The contents of the landing buffer and of the result at launch. -/
abbrev rm (c : Dev nD) : Vec F S1024x4096 .f32 := m ((c : Thread nD τ).loc main_v1_1)
abbrev om (c : Dev nD) : Vec F S4096x4096 .f32 := m ((c : Thread nD τ).loc main_v1_0)

omit [FloatOps F] in
instance pPt_storable (c : Dev nD) (B : ℕ) : BI.Storable (upEmb : UEmb _ 𝕄) (pPt (F := F) m c B) := by unfold pPt; infer_instance
omit [FloatOps F] in
instance rvPt_storable (c : Dev nD) (k : Fin 8) (f) : BI.Storable (upEmb : UEmb _ 𝕄) (rvPt (F := F) c k f) := by unfold rvPt; infer_instance
omit [FloatOps F] in
instance outPt_storable (c : Dev nD) (B n : ℕ) (f) : BI.Storable (upEmb : UEmb _ 𝕄) (outPt (F := F) c B n f) := by unfold outPt; infer_instance
omit [FloatOps F] in
instance oPt_storable (c : Dev nD) (s : Fin 2) (q) (f) : BI.Storable (upEmb : UEmb _ 𝕄) (oPt (F := F) c s q f) := by unfold oPt; infer_instance

/-! ## The payloads -/

/-- The three shares of a slot under the three copies that read it. -/
abbrev qX : PosShare TreeShare := fullShare.left
abbrev qZ : PosShare TreeShare := fullShare.right.left
abbrev qO : PosShare TreeShare := fullShare.right.right

/-- What chunk `k` of array `j` hands device `c`. -/
def pay (c : Dev nD) (j : Fin 10) (k : Fin 8) : sProp 𝕄 := match j with
  | 0 => pPt m c (bs (yPeer c) + 128 * k.val)
  | 1 => rvPt c k (recvF m c)
  | 2 => oPt c (sl k) qX (oF m c k)
  | 3 => outPt c (qo c 2 + 128 * k.val) 128 (outF m c)
  | 4 => oPt c (sl k) qZ (oF m c k)
  | 5 => outPt c (qo c 1 + 128 * k.val) 128 (outF m c)
  | 6 => outPt c (qo c 1 + 128 * k.val + 64) 64 (outF m c)
  | 7 => outPt c (qo c 3 + 128 * k.val + 64) 64 (outF m c)
  | 8 => outPt c (qo c 2 + 128 * k.val) 64 (outF m c)
  | 9 => outPt c (qo c 3 + 128 * k.val) 64 (outF m c)

/-- What the three partners' barrier signals hand device `c`, chunk by chunk: the landing buffer of the `y` partner; of the
    `x` partner's result the rows of `c`'s own quarter and the second halves of the chunks `c` passes on along `x`; of
    the `z` partner's the rows of `c`'s own quarter and the first halves of those it passes on along `z`. -/
def barPay (c : Dev nD) (d : Fin 3) : sProp 𝕄 := match d with
  | 0 => bigSep Finset.univ fun k : Fin 8 => rvPt (yPeer c) k (rm m (yPeer c))
  | 1 => bigSep Finset.univ fun k : Fin 8 => iprop(outPt (xPeer c) (qo c 0 + 128 * k.val) 128 (om m (xPeer c)) ∗ outPt (xPeer c) (qo c 1 + 128 * k.val + 64) 64 (om m (xPeer c)))
  | 2 => bigSep Finset.univ fun k : Fin 8 => iprop(outPt (zPeer c) (qo c 0 + 128 * k.val) 128 (om m (zPeer c)) ∗ outPt (zPeer c) (qo c 2 + 128 * k.val) 64 (om m (zPeer c)))

def payC (c : Dev nD) (d : Fin 3) : CI → sProp 𝕄
  | none => barPay m c d
  | some (j, k) => pay m c j k

instance pay_storable (c : Dev nD) (j : Fin 10) (k : Fin 8) : BI.Storable (upEmb : UEmb _ 𝕄) (pay (F := F) m c j k) := by
  unfold pay; fin_cases j <;> infer_instance
omit [FloatOps F] in
instance barPay_storable (c : Dev nD) (d : Fin 3) : BI.Storable (upEmb : UEmb _ 𝕄) (barPay (F := F) m c d) := by
  unfold barPay; fin_cases d <;> infer_instance

def dutC : CI → Finset (Fin 3)
  | none => Finset.univ
  | some _ => {0}

/-- The schedule: one round. -/
def sched : Rounds.Schedule (GSem nD τ sig) (Fin 3) 𝕄 where
  duties g r := if r = 0 ∧ g.1.2 = .tc then (match kind g.2 with | some i => dutC i | none => ∅) else ∅
  unitless _ := False
  amount g _ _ := match kind g.2 with | some i => amtC i | none => 1
  payload g _ d := match kind g.2 with | some i => payC m g.1.1 d i | none => iprop(emp)
  amount_pos g _ _ _ := by
    cases kind g.2 with
    | none => exact Nat.one_pos
    | some i => exact amtC_pos i

instance sched_payload_storable (g : GSem nD τ sig) (r : ℕ) (d : Fin 3) :
    BI.Storable (upEmb : UEmb _ 𝕄) ((sched (F := F) m).payload g r d) := by
  show BI.Storable upEmb (match kind g.2 with | some i => payC m g.1.1 d i | none => iprop(emp))
  cases kind g.2 with
  | none => infer_instance
  | some i =>
    match i with
    | none => exact barPay_storable m _ _
    | some (j, k) => exact pay_storable m _ _ _

theorem duties_cell (c : Dev nD) (i : CI) : (sched (F := F) m).duties (kcell c i) 0 = dutC i := by
  dsimp only [sched]; rw [if_pos ⟨rfl, rfl⟩, kind_csem]
theorem duties_later (g : GSem nD τ sig) : ∀ r, 1 ≤ r → (sched (F := F) m).duties g r = ∅ :=
  fun r hr => by dsimp only [sched]; exact if_neg fun h => by omega
theorem amount_cell (c : Dev nD) (i : CI) (d : Fin 3) : (sched (F := F) m).amount (kcell c i) 0 d = amtC i := by
  dsimp only [sched]; rw [kind_csem]
theorem payload_cell (c : Dev nD) (i : CI) (d : Fin 3) : (sched (F := F) m).payload (kcell c i) 0 d = payC m c d i := by
  dsimp only [sched]; rw [kind_csem]
theorem expect_bar (c : Dev nD) : (sched (F := F) m).expect (kcell c none) 0 = 3 := by
  unfold Schedule.expect Schedule.amountOf
  rw [duties_cell, Finset.sum_congr rfl fun d _ => amount_cell m c none d]; rfl
theorem expect_xfer (c : Dev nD) (j : Fin 10) (k : Fin 8) : (sched (F := F) m).expect (kcell c (some (j, k))) 0 = amtC (some (j, k)) := by
  unfold Schedule.expect Schedule.amountOf
  rw [duties_cell]; exact (Finset.sum_singleton _ _).trans (amount_cell m c _ _)
/-- All of a transfer cell's round: its one payload. -/
theorem rest_xfer (c : Dev nD) (j : Fin 10) (k : Fin 8) :
    bigSep ((sched (F := F) m).duties (kcell c (some (j, k))) 0 \ ∅) (fun d => (sched (F := F) m).payload (kcell c (some (j, k))) 0 d) = pay m c j k := by
  rw [Finset.sdiff_empty, duties_cell]; exact bigSep_singleton.trans (payload_cell m c _ _)
/-- All of a barrier cell's round: the three payloads. -/
theorem rest_bar (c : Dev nD) :
    bigSep ((sched (F := F) m).duties (kcell c none) 0 \ ∅) (fun d => (sched (F := F) m).payload (kcell c none) 0 d)
      = iprop(barPay m c 0 ∗ barPay m c 1 ∗ barPay m c 2) := by
  rw [Finset.sdiff_empty, duties_cell]
  show bigSep Finset.univ _ = _
  rw [bigSep_univ_eq_bigSepL [0, 1, 2] (by decide) (by decide), bigSepL_cons_cons, bigSepL_cons_cons, bigSepL_singleton, payload_cell, payload_cell, payload_cell]
  rfl

/-! ## Who pays what -/

/-- The duties of a device's cells: the barrier's three, each transfer cell's one. -/
abbrev TK : Type := Fin 3 ⊕ (Fin 10 × Fin 8)
abbrev tci : TK → CI
  | .inl _ => none
  | .inr p => some p
abbrev tdu : TK → Fin 3
  | .inl d => d
  | .inr _ => 0

/-- The device that a barrier signal or a transfer of an array goes to. -/
def dstOf (j : Fin 10) (c : Dev nD) : Dev nD := match j with
  | 1 => yPeer c | 3 => xPeer c | 5 => zPeer c | 7 => xPeer c | 9 => zPeer c
  | _ => c
/-- Device `c` pays duty `t` of device `tgt t c`. -/
def tgt : TK → Dev nD → Dev nD
  | .inl 0, c => yPeer c
  | .inl 1, c => xPeer c
  | .inl 2, c => zPeer c
  | .inr (j, _), c => dstOf j c

theorem tgt_tgt (t : TK) (c : Dev nD) : tgt t (tgt t c) = c := by
  match t with
  | .inl d => fin_cases d; exacts [yPeer_yPeer c, xPeer_xPeer c, zPeer_zPeer c]
  | .inr (j, k) => fin_cases j <;> first | rfl | exact yPeer_yPeer c | exact xPeer_xPeer c | exact zPeer_zPeer c

/-- Which duties are owed from the launch on: the barrier's and the receive cells'; -/
def owedT : TK → Bool
  | .inl _ => true
  | .inr (j, _) => j.val % 2 == 1
/-- when each is paid, in program order; -/
def rank : TK → ℕ
  | .inl d => d.val
  | .inr (j, k) => match j with
    | 1 => 3 + k.val
    | 3 => 11 + 4 * k.val
    | 5 => 12 + 4 * k.val
    | 9 => 21 + 4 * k.val
    | 7 => 22 + 4 * k.val
    | _ => 0
/-- and the level of each cell: staging, local and send cells lowest, then the barrier, the receives along `y`, those along
    `x` and `z` by chunk, the passed-on halves. -/
def lvC : CI → ℕ
  | none => 1
  | some (j, k) => match j with
    | 1 => 5
    | 3 => 10 + k.val
    | 5 => 10 + k.val
    | 7 => 200
    | 9 => 200
    | _ => 0

/-- The duty paid at a step: the steps have an inverse on the owed duties. -/
theorem rank_inj (t t' : TK) (h : owedT t = true) (h' : owedT t' = true) (e : rank t = rank t') : t = t' := by
  have key : ∀ t : TK, owedT t = true → ∀ t' : TK, (owedT t' && rank t == rank t') = true → t = t' := by decide +kernel
  exact key t h t' (by rw [h', e]; simp)

/-- The duties still owed at step `n`, -/
def oweSet (n : ℕ) : Finset TK := Finset.univ.filter fun t => owedT t = true ∧ n ≤ rank t
/-- and what device `c` owes then. -/
def O (n : ℕ) (c : Dev nD) : CellTallies nD τ sig Unit := ∑ t ∈ oweSet n, tallyAt (kcell (tgt t c) (tci t)) () (amtC (tci t))

theorem oweSet_succ (t : TK) (h : owedT t = true) : oweSet (rank t) = insert t (oweSet (rank t + 1)) := by
  ext t'
  simp only [oweSet, Finset.mem_insert, Finset.mem_filter, Finset.mem_univ, true_and]
  constructor
  · rintro ⟨h1, h2⟩
    rcases Nat.lt_or_ge (rank t) (rank t') with h3 | h3
    · exact Or.inr ⟨h1, h3⟩
    · exact Or.inl (rank_inj t' t h1 h (le_antisymm h3 h2))
  · rintro (rfl | ⟨h1, h2⟩)
    · exact ⟨h, le_rfl⟩
    · exact ⟨h1, by omega⟩

/-- Paying the duty due at its step. -/
theorem O_succ (t : TK) (h : owedT t = true) (c : Dev nD) :
    O (rank t) c = O (rank t + 1) c + tallyAt (kcell (tgt t c) (tci t)) () (amtC (tci t)) := by
  unfold O
  rw [oweSet_succ t h, Finset.sum_insert, add_comm]
  simp [oweSet]

/-- Nothing is due between steps 13 and 15, 17 and 19, 43 and 45, 47 and 49, and nothing is owed from step 51 on. -/
theorem O_gap (n n' : ℕ) (h : ∀ t : TK, owedT t = true → (n ≤ rank t ↔ n' ≤ rank t)) (c : Dev nD) : O n c = O n' c := by
  unfold O
  congr 1
  ext t
  simp only [oweSet, Finset.mem_filter, Finset.mem_univ, true_and]
  exact ⟨fun ⟨h1, h2⟩ => ⟨h1, (h t h1).mp h2⟩, fun ⟨h1, h2⟩ => ⟨h1, (h t h1).mpr h2⟩⟩
theorem O_13 (c : Dev nD) : O 13 c = O 15 c := O_gap _ _ (by decide +kernel) c
theorem O_17 (c : Dev nD) : O 17 c = O 19 c := O_gap _ _ (by decide +kernel) c
theorem O_43 (c : Dev nD) : O 43 c = O 45 c := O_gap _ _ (by decide +kernel) c
theorem O_47 (c : Dev nD) : O 47 c = O 49 c := O_gap _ _ (by decide +kernel) c
theorem O_51 (c : Dev nD) : O 51 c = 0 := by
  have h : ∀ t : TK, owedT t = true → ¬ 51 ≤ rank t := by decide +kernel
  unfold O
  rw [show oweSet 51 = ∅ from Finset.filter_eq_empty_iff.mpr fun t _ ⟨h1, h2⟩ => h t h1 h2]
  rfl

/-! ## Levels -/

def L (g : GSem nD τ sig) : Finset Unit := if g.1.2 = .tc then {()} else ∅
def lvS (sm : SemLoc sig) : ℕ := match kind sm with | some i => lvC i | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_csem (i : CI) : lvS (csem i) = lvC i := by unfold lvS; rw [kind_csem]

theorem O_pos {n : ℕ} {c : Dev nD} {g : GSem nD τ sig} {u : Unit} (h : 0 < O n c g u) :
    ∃ t, owedT t = true ∧ n ≤ rank t ∧ g = kcell (tgt t c) (tci t) := by
  by_contra hn
  rw [not_exists] at hn
  have : O n c g u = 0 := by
    unfold O
    rw [Finset.sum_apply, Finsupp.finset_sum_apply]
    refine Finset.sum_eq_zero fun t ht => ?_
    obtain ⟨-, h1, h2⟩ := Finset.mem_filter.mp ht
    rw [tallyAt_apply, if_neg]
    rintro ⟨rfl, -⟩
    exact hn t ⟨h1, h2, rfl⟩
  omega

omit [FloatOps F] in
/-- A device may wait on a cell that is below every duty it still owes. -/
theorem mayWait (c : Dev nD) (sm : SemLoc sig) (n : ℕ) (h : ∀ t, owedT t = true → n ≤ rank t → lvS sm < lvC (tci t)) :
    (levAts L lv : sProp 𝕄) ⊢ MayWait (c : Thread nD τ) sm () (O n c) :=
  MayOwe.of_cut (L := L) (lev := lv) (lvS sm) (fun p hp => by rw [Finset.mem_singleton.mp hp, L_tc]; exact Finset.mem_singleton_self _)
    (fun g u hg => by obtain ⟨t, -, -, rfl⟩ := O_pos hg; rw [L_tc]; exact Finset.mem_singleton_self _)
    (fun p hp => by rw [Finset.mem_singleton.mp hp]; exact le_rfl)
    (fun g u hg => by obtain ⟨t, h1, h2, rfl⟩ := O_pos hg; show _ < lvS (csem (tci t)); rw [lvS_csem]; exact h t h1 h2)

/-- The lowest level: every duty owed is above it. -/
theorem lv_owed : ∀ t, owedT t = true → 0 < lvC (tci t) := by decide +kernel

end Cert.KernelIdeal.Run

end
-- ==== Proof.Steps.lean ====
/-
One rule per kind of effect, for the cells of this protocol: a transfer to a partner, a wait on a scheduled cell, a local
copy, a wait on a local copy, a barrier signal and the barrier wait.
-/
module

public import proofs.«01_k».proof.Proof.Proto

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev WP (c : Dev nD) (p : Pr (F := F) PUnit.{1}) (Q : PUnit.{1} → sProp 𝕄) : sProp 𝕄 :=
  wp frame (wpE (defs₀ (F := F)) 𝒱₀ (c : Thread nD τ) none) Set.univ p Q

/-! ## The persistent context -/

/-- Every cell's invariant, under the names `K`, and that every cell has reached round 0; -/
def records (K : Dev nD × CI → ℕ) : sProp 𝕄 :=
  iprop((bigSep Finset.univ fun ci : Dev nD × CI => cellInv ER (sched m) (K ci) (kcell ci.1 ci.2))
    ∗ bigSep Finset.univ fun ci : Dev nD × CI => reached ER (kcell ci.1 ci.2) 0)
instance records_persistent (K : Dev nD × CI → ℕ) : BI.Persistent (records m K) := by unfold records; infer_instance
/-- with the levels. -/
def Ctx (K : Dev nD × CI → ℕ) : sProp 𝕄 := iprop(records m K ∗ levAts L lv)
instance Ctx_persistent (K : Dev nD × CI → ℕ) : BI.Persistent (Ctx m K) := by unfold Ctx; infer_instance

variable (K : Dev nD × CI → ℕ)

theorem Ctx_inv (c : Dev nD) (i : CI) : Ctx m K ⊢ cellInv ER (sched m) (K (c, i)) (kcell c i) := by
  have h : (bigSep Finset.univ fun ci : Dev nD × CI => (cellInv ER (sched m) (K ci) (kcell ci.1 ci.2) : sProp 𝕄)) ⊢ cellInv ER (sched m) (K (c, i)) (kcell c i) :=
    bigSep_elim (Finset.mem_univ (c, i))
  unfold Ctx records
  iintro ⟨⟨HI, -⟩, -⟩
  iapply h; iexact HI
theorem Ctx_reached (c : Dev nD) (i : CI) : Ctx m K ⊢ reached ER (kcell c i) 0 := by
  have h : (bigSep Finset.univ fun ci : Dev nD × CI => (reached ER (kcell ci.1 ci.2) 0 : sProp 𝕄)) ⊢ reached ER (kcell c i) 0 :=
    bigSep_elim (Finset.mem_univ (c, i))
  unfold Ctx records
  iintro ⟨⟨-, HR⟩, -⟩
  iapply h; iexact HR
/-- A device may wait on a cell that is below every duty it still owes. -/
theorem Ctx_mayWait (c : Dev nD) (sm : SemLoc sig) (n : ℕ) (h : ∀ t, owedT t = true → n ≤ rank t → lvS sm < lvC (tci t)) :
    Ctx m K ⊢ MayWait (c : Thread nD τ) sm () (O n c) := by
  have h' : (levAts L lv : sProp 𝕄) ⊢ MayWait (c : Thread nD τ) sm () (O n c) := mayWait c sm n h
  unfold Ctx
  iintro ⟨-, H⟩
  iapply h'; iexact H

/-! ## What a device holds of its cells -/

/-- What device `c` still owes at step `n`. -/
def owesX (c : Dev nD) (n : ℕ) : sProp 𝕄 := iprop(∃ W, owes (c : Thread nD τ) (O n c) W)
/-- The right to wait for all of a transfer cell: its credit and its position. -/
def Wt (c : Dev nD) (j : Fin 10) (k : Fin 8) : sProp 𝕄 :=
  iprop(cred (tallyAt (kcell c (some (j, k))) () (amtC (some (j, k)))) ∗ atPos ER (kcell c (some (j, k))) 0 ∅ 0)
/-- The right to send chunk `k` with completions on array `j` here and `j'` there. -/
def St (c : Dev nD) (j j' : Fin 10) (k : Fin 8) : sProp 𝕄 :=
  iprop(atPos ER (kcell c (some (j, k))) 0 ∅ 0 ∗ dutyTok ER (kcell c (some (j, k))) 0 0 ∗ dutyTok ER (kcell (dstOf j' c) (some (j', k))) 0 0)
/-- A scheduled cell at rest, its round over. -/
abbrev Zx (c : Dev nD) (j : Fin 10) (k : Fin 8) : sProp 𝕄 := semVal (kcell c (some (j, k))) 0
/-- A local semaphore at rest. -/
abbrev Zl (c : Dev nD) (q : DmaSem sig) : sProp 𝕄 := semVal ((c : Thread nD τ), SemLoc.dma q) 0
/-- A local copy under way. -/
abbrev Fl (c : Dev nD) (q : DmaSem sig) (D : sProp 𝕄) : sProp 𝕄 := Flight EC (c : Thread nD τ) (.dma q) () NB D

theorem owesX_congr {c : Dev nD} {n n' : ℕ} (h : O n c = O n' c) : (owesX c n : sProp 𝕄) = owesX c n' := by unfold owesX; rw [h]

/-! ## The effects -/

section Effects

/-- A wait for all of a transfer cell: its payload, the cell at rest. -/
theorem wait_x {c : Dev nD} {kt : PUnit → Pr (F := F) PUnit} {Q : PUnit → sProp 𝕄} (j : Fin 10) (k : Fin 8) {sem : DmaSem sig} (hs : sem = xs j k) {sp sp' : Space} {s s' : Shape} {e e' : EltTy}
    {src : Memref sig .tc sp' s' e'} {dst : Memref sig .tc sp s e} {h1 : src.view.WordExact} {h2 : dst.view.WordExact}
    (hN : dst.view.dmaCredit = amtC (some (j, k))) (n : ℕ) (hlv : ∀ t, owedT t = true → n ≤ rank t → lvC (some (j, k)) < lvC (tci t)) :
    iprop(Ctx m K ∗ Wt c j k ∗ owesX c n)
      ⊢ iprop(((pay m c j k ∗ Zx c j k ∗ owesX c n) -∗ WP c (kt ⟨⟩) Q) -∗ WP c (.op (.waitDma2 sem src dst h1 h2) kt) Q) := by
  subst hs
  unfold Wt owesX
  iintro ⟨#HC, ⟨Hcr, Hat⟩, ⟨%W, HO⟩⟩ Hk
  iapply (Rounds.wp_wait_rest_token 𝒱₀ ER (sched m) (c : Thread nD τ) none (κ := K (c, some (j, k)))
      (sm := csem (some (j, k))) (k' := amtC (some (j, k)))
      (fun Q' => by rw [← hN]; exact wpE_waitDma2_eq 𝒱₀ (c : Thread nD τ) none Set.univ Q') (Set.mem_univ _) () (O := O n c) (W := W) (R := 0) (m := 0) (T := ∅)
      (by rw [Nat.zero_add]; exact (expect_xfer m c j k).symm)) $$ [Hcr HO Hat]
  · isplitr; · iapply (Ctx_inv m K c (some (j, k))); iexact HC
    isplitl [Hcr]; · iexact Hcr
    isplitl [HO]; · iexact HO
    isplitr
    · iapply (Ctx_mayWait m K c (csem (some (j, k))) n (by rw [lvS_csem]; exact hlv)); iexact HC
    iexact Hat
  iintro ⟨HO, Hat, -, Hpay⟩
  ihave Hp := (Entails.of_eq (rest_xfer m c j k)) $$ Hpay
  imod (Rounds.cell_close ER (sched m) (Set.mem_univ (K (c, some (j, k)))) (fun h => h) (R := 0 + 1) (duties_later m (kcell c (some (j, k))))) $$ [Hat] with Hz
  · isplitr; · iapply (Ctx_inv m K c (some (j, k))); iexact HC
    iexact Hat
  iapply Hk
  isplitl [Hp]; · iexact Hp
  isplitl [Hz]; · iexact Hz
  iexists _; iexact HO

/-- A transfer to a partner: the source's share goes to the send cell, the written rows to the partner's receive cell. -/
theorem send_x {c : Dev nD} {kt : PUnit → Pr (F := F) PUnit} {Q : PUnit → sProp 𝕄} (j j' : Fin 10) (k : Fin 8) (hj : owedT (.inr (j', k)) = true) {d : Dev nD} (hd : d = dstOf j' c)
    {semS semR : DmaSem sig} (hS : semS = xs j k) (hR : semR = xs j' k) {sp sp' : Space} {s : Shape} {e : EltTy}
    {src : Memref sig .tc sp s e} {dst : Memref sig .tc sp' s e} {hsc : dst.view.ref.isScScratch = false}
    {h1 : src.view.WordExact} {h2 : dst.view.WordExact}
    {hsem : DmaTarget.Typed sp (.dma semR) (.remote (Dev.tc d : Thread nD τ) dst (.dma semS) hsc)}
    {q : PosShare TreeShare} {fs : Buf (Elt F) (src.view.loc (c : Thread nD τ))} {fd : Buf (Elt F) (dst.view.loc (dstOf j' c : Thread nD τ))}
    (hN : dst.view.amount (.dma semR) = amtC (some (j', k))) (hN' : amtC (some (j, k)) = amtC (some (j', k))) {A B : sProp 𝕄}
    (hA : A ⊢ (src.view.loc (c : Thread nD τ) ↦[src.view.set]{q} fs))
    (hB : B ⊢ (dst.view.loc (dstOf j' c : Thread nD τ) ↦[dst.view.set]{fullShare} fd))
    (hp1 : (src.view.loc (c : Thread nD τ) ↦[src.view.set]{q} fs) ⊢ pay m c j k)
    (hp2 : (dst.view.loc (dstOf j' c : Thread nD τ) ↦[dst.view.set]{fullShare} (dst.view.write (Elt F) fd (src.view.read (Elt F) fs) Finset.univ)) ⊢ pay m (dstOf j' c) j' k) :
    iprop(Ctx m K ∗ A ∗ B ∗ St c j j' k ∗ owesX c (rank (.inr (j', k))))
      ⊢ iprop(((Wt c j k ∗ owesX c (rank (.inr (j', k)) + 1)) -∗ WP c (kt ⟨⟩) Q)
          -∗ WP c (.op (.enqueueDma src (.remote (Dev.tc d : Thread nD τ) dst (.dma semS) hsc) (.dma semR) h1 h2 hsem) kt) Q) := by
  subst hS hR hd
  unfold St owesX
  iintro ⟨#HC, HA, HB, ⟨Hat, Ht1, Ht2⟩, ⟨%W, HO⟩⟩ Hk
  ihave HA := hA $$ HA
  ihave HB := hB $$ HB
  iapply (Rounds.wp_send_pointsTo 𝒱₀ ER (sched m) (c : Thread nD τ) none (κ₁ := K (c, some (j, k))) (κ₂ := K (dstOf j' c, some (j', k)))
    (r₁ := 0) (r₂ := 0) (d₁ := 0) (d₂ := 0) (fs := fs) (fd := fd) (q := q)
    (by rw [show ((c : Thread nD τ), SemLoc.dma (xs j k)) = kcell c (some (j, k)) from rfl, duties_cell]; exact Finset.mem_singleton_self _)
    (by rw [show ((dstOf j' c : Thread nD τ), SemLoc.dma (xs j' k)) = kcell (dstOf j' c) (some (j', k)) from rfl, duties_cell]; exact Finset.mem_singleton_self _)
    () () (amtC (some (j', k))) hN ((amount_cell m c (some (j, k)) 0).trans hN') (amount_cell m (dstOf j' c) (some (j', k)) 0)
    (O (rank (.inr (j', k)) + 1) c) (O_succ (.inr (j', k)) hj c) (W := W)
    (by rw [show ((c : Thread nD τ), SemLoc.dma (xs j k)) = kcell c (some (j, k)) from rfl, payload_cell]; exact hp1)
    (by rw [show ((dstOf j' c : Thread nD τ), SemLoc.dma (xs j' k)) = kcell (dstOf j' c) (some (j', k)) from rfl, payload_cell]; exact hp2)) $$ [HA HB HO Ht1 Ht2]
  · isplitr; · iapply (Ctx_inv m K c (some (j, k))); iexact HC
    isplitr; · iapply (Ctx_inv m K (dstOf j' c) (some (j', k))); iexact HC
    isplitl [HA]; · iexact HA
    isplitl [HB]; · iexact HB
    isplitl [HO]; · iexact HO
    isplitl [Ht1]; · iexact Ht1
    isplitr; · iapply (Ctx_reached m K c (some (j, k))); iexact HC
    isplitl [Ht2]; · iexact Ht2
    iapply (Ctx_reached m K (dstOf j' c) (some (j', k))); iexact HC
  iintro ⟨Hcr, HO⟩
  iapply Hk
  isplitl [Hcr Hat]
  · unfold Wt; rw [hN']; isplitl [Hcr] <;> iassumption
  iexists W; iexact HO

/-- A local copy is issued: it will deliver `D`. -/
theorem copy_l {c : Dev nD} {kt : PUnit → Pr (F := F) PUnit} {Q : PUnit → sProp 𝕄} {sem : DmaSem sig} {sp sp' : Space} {s : Shape} {e : EltTy}
    {src : Memref sig .tc sp s e} {dst : Memref sig .tc sp' s e} {h1 : src.view.WordExact} {h2 : dst.view.WordExact}
    {hsem : DmaTarget.Typed (nD := nD) (τ := τ) (p := .tc) sp (.dma sem) (.here dst)}
    {q : PosShare TreeShare} {fs : Buf (Elt F) (src.view.loc (c : Thread nD τ))} {fd : Buf (Elt F) (dst.view.loc (c : Thread nD τ))}
    (hN : dst.view.amount (.dma sem) = NB) {A B D : sProp 𝕄}
    (hA : A ⊢ (src.view.loc (c : Thread nD τ) ↦[src.view.set]{q} fs))
    (hB : B ⊢ (dst.view.loc (c : Thread nD τ) ↦[dst.view.set]{fullShare} fd))
    (hD : iprop((dst.view.loc (c : Thread nD τ) ↦[dst.view.set]{fullShare} (dst.view.write (Elt F) fd (src.view.read (Elt F) fs) Finset.univ))
      ∗ (src.view.loc (c : Thread nD τ) ↦[src.view.set]{q} fs)) ⊢ D) :
    iprop(A ∗ B ∗ Zl c sem)
      ⊢ iprop((Fl c sem D -∗ WP c (kt ⟨⟩) Q) -∗ WP c (.op (.enqueueDma src (.here dst) (.dma sem) h1 h2 hsem) kt) Q) := by
  iintro ⟨HA, HB, Hz⟩ Hk
  ihave HA := hA $$ HA
  ihave HB := hB $$ HB
  iapply (Transfers.wp_dmaLocal EC 𝒱₀ (c : Thread nD τ) none () NB hN NB_pos (Finset.Subset.refl _)) $$ [HA HB Hz]
  · isplitl [HA]; · iexact HA
    isplitl [HB]; · iexact HB
    iexact Hz
  iintro HF
  iapply Hk
  iapply (Transfers.Flight_mono EC (c : Thread nD τ) hD)
  iexact HF

/-- A wait on a local copy. -/
theorem wait_l {c : Dev nD} {kt : PUnit → Pr (F := F) PUnit} {Q : PUnit → sProp 𝕄} {sem : DmaSem sig} (hs : kind (.dma sem) = none) {sp sp' : Space} {s s' : Shape} {e e' : EltTy}
    {src : Memref sig .tc sp' s' e'} {dst : Memref sig .tc sp s e} {h1 : src.view.WordExact} {h2 : dst.view.WordExact}
    (hN : dst.view.dmaCredit = NB) {D : sProp 𝕄} (n : ℕ) :
    iprop(Ctx m K ∗ Fl c sem D ∗ owesX c n)
      ⊢ iprop(((D ∗ Zl c sem ∗ owesX c n) -∗ WP c (kt ⟨⟩) Q) -∗ WP c (.op (.waitDma2 sem src dst h1 h2) kt) Q) := by
  unfold owesX
  iintro ⟨#HC, HF, ⟨%W, HO⟩⟩ Hk
  iapply (Transfers.wp_waitLocalO EC 𝒱₀ (c : Thread nD τ) none () hN) $$ [HF HO]
  · isplitl [HF]; · iexact HF
    isplitl [HO]; · iexact HO
    iapply (Ctx_mayWait m K c (.dma sem) n (by unfold lvS; rw [hs]; exact fun t h _ => lv_owed t h)); iexact HC
  iintro ⟨HD, Hz, HO⟩
  iapply Hk
  isplitl [HD]; · iexact HD
  isplitl [Hz]; · iexact Hz
  iexists _; iexact HO

/-- A signal to a partner's barrier. -/
theorem signal_b {c : Dev nD} {kt : PUnit → Pr (F := F) PUnit} {Q : PUnit → sProp 𝕄} (i : Fin 3) {d : Dev nD} (hd : d = tgt (.inl i) c) {A : sProp 𝕄} (hA : A ⊢ barPay m (tgt (.inl i) c) i) :
    iprop(Ctx m K ∗ A ∗ dutyTok ER (kcell (tgt (.inl i) c) none) 0 i ∗ owesX c (rank (.inl i)))
      ⊢ iprop((owesX c (rank (.inl i) + 1) -∗ WP c (kt ⟨⟩) Q) -∗ WP c (.op (.semSignal (Dev.tc d : Thread nD τ) barS 1) kt) Q) := by
  subst hd
  unfold owesX
  iintro ⟨#HC, HA, Ht, ⟨%W, HO⟩⟩ Hk
  ihave HA := hA $$ HA
  iapply (Rounds.wp_signal 𝒱₀ ER (sched m) (c : Thread nD τ) none (dst := (tgt (.inl i) c : Thread nD τ)) (κ := K (tgt (.inl i) c, none))
      (d := i) (r := 0) (by rw [show ((tgt (.inl i) c : Thread nD τ), SemLoc.reg barS) = kcell (tgt (.inl i) c) none from rfl, duties_cell]; exact Finset.mem_univ _)
      (amount_cell m (tgt (.inl i) c) none i) () (O (rank (.inl i) + 1) c) (O_succ (.inl i) rfl c) (W := W)) $$ [HA Ht HO]
  · isplitr; · iapply (Ctx_inv m K (tgt (.inl i) c) none); iexact HC
    isplitl [HO]; · iexact HO
    isplitl [Ht]; · iexact Ht
    isplitl [HA]
    · rw [show ((tgt (.inl i) c : Thread nD τ), SemLoc.reg barS) = kcell (tgt (.inl i) c) none from rfl, payload_cell]; unfold payC; iexact HA
    iapply (Ctx_reached m K (tgt (.inl i) c) none); iexact HC
  iintro HO
  iapply Hk
  iexists W; iexact HO

/-- The barrier wait: the three partners' payloads, the cell at rest. -/
theorem wait_b {c : Dev nD} {kt : PUnit → Pr (F := F) PUnit} {Q : PUnit → sProp 𝕄} :
    iprop(Ctx m K ∗ cred (tallyAt (kcell c none) () 3) ∗ atPos ER (kcell c none) 0 ∅ 0 ∗ owesX c 3)
      ⊢ iprop(((barPay m c 0 ∗ barPay m c 1 ∗ barPay m c 2 ∗ semVal (kcell c none) 0 ∗ owesX c 3) -∗ WP c (kt ⟨⟩) Q)
          -∗ WP c (.op (.semWait barS 3) kt) Q) := by
  unfold owesX
  iintro ⟨#HC, Hcr, Hat, ⟨%W, HO⟩⟩ Hk
  iapply (Rounds.wp_wait_rest_token 𝒱₀ ER (sched m) (c : Thread nD τ) none (κ := K (c, none)) (sm := csem none)
      (wpE_semWait_eq 𝒱₀ (c : Thread nD τ) none Set.univ) (Set.mem_univ _) () (O := O 3 c) (W := W) (R := 0) (m := 0) (T := ∅)
      (by rw [Nat.zero_add]; exact (expect_bar m c).symm)) $$ [Hcr HO Hat]
  · isplitr; · iapply (Ctx_inv m K c none); iexact HC
    isplitl [Hcr]; · iexact Hcr
    isplitl [HO]; · iexact HO
    isplitr
    · iapply (Ctx_mayWait m K c (csem none) 3 (by rw [lvS_csem]; decide +kernel)); iexact HC
    iexact Hat
  iintro ⟨HO, Hat, -, Hpay⟩
  ihave Hp := (Entails.of_eq (rest_bar m c)) $$ Hpay
  icases Hp with ⟨H0, H1, H2⟩
  imod (Rounds.cell_close ER (sched m) (Set.mem_univ (K (c, none))) (fun h => h) (R := 0 + 1) (duties_later m (kcell c none))) $$ [Hat] with Hz
  · isplitr; · iapply (Ctx_inv m K c none); iexact HC
    iexact Hat
  iapply Hk
  isplitl [H0]; · iexact H0
  isplitl [H1]; · iexact H1
  isplitl [H2]; · iexact H2
  isplitl [Hz]; · iexact Hz
  iexists _; iexact HO

end Effects

end Cert.KernelIdeal.Run

end
-- ==== Proof.Pieces.lean ====
/-
The pieces of the body, each with what it takes and what it leaves.
-/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ)

/-- A piece of device `c`'s body turns `R` into `R'`, whatever follows. -/
def Tr (c : Dev nD) (R R' : sProp 𝕄) (p : Pr (F := F) PUnit) : Prop :=
  ∀ (kt : PUnit → Pr (F := F) PUnit) (Q : PUnit → sProp 𝕄), iprop(Ctx m K ∗ R) ⊢ iprop((R' -∗ WP c (kt ⟨⟩) Q) -∗ WP c (p >>= kt) Q)

/-! ## Assertions of one chunk -/

/-- The rows of the own half, to be loaded; -/
abbrev Asrc (c : Dev nD) (k : Fin 8) : sProp 𝕄 := pPt m c (bs c + 128 * k.val)
/-- what the transfer along `y` takes; -/
def Sy (c : Dev nD) (k : Fin 8) : sProp 𝕄 :=
  iprop(pPt m c (bs (yPeer c) + 128 * k.val) ∗ rvPt (yPeer c) k (rm m (yPeer c)) ∗ St c 0 1 k)
/-- what computing and sending a chunk takes: the arrival along `y`, the partners' rows and the own rows of the result; -/
def Cg (c : Dev nD) (k : Fin 8) : sProp 𝕄 :=
  iprop(Wt c 1 k ∗ St c 2 3 k ∗ St c 4 5 k ∗ outPt (xPeer c) (qo c 0 + 128 * k.val) 128 (om m (xPeer c))
    ∗ outPt (zPeer c) (qo c 0 + 128 * k.val) 128 (om m (zPeer c)) ∗ outPt c (qo c 0 + 128 * k.val) 128 (om m c))
/-- what passing on takes: the two arrivals, the partners' rows of the two halves. -/
def Fg (c : Dev nD) (k : Fin 8) : sProp 𝕄 :=
  iprop(Wt c 3 k ∗ Wt c 5 k ∗ St c 8 9 k ∗ St c 6 7 k ∗ outPt (zPeer c) (qo c 2 + 128 * k.val) 64 (om m (zPeer c))
    ∗ outPt (xPeer c) (qo c 1 + 128 * k.val + 64) 64 (om m (xPeer c)))
/-- The load of the own half under way, of the partner's half, the store of the result. -/
def FA (c : Dev nD) (k : Fin 8) : sProp 𝕄 := Fl c (ldS (sl k)) iprop(aPt c (sl k) (aF m c k) ∗ Asrc m c k)
def FB (c : Dev nD) (k : Fin 8) : sProp 𝕄 := Fl c (s5 2) iprop(bPt c (bV m c k) ∗ rvPt c k (recvF m c))
def FO (c : Dev nD) (k : Fin 8) : sProp 𝕄 :=
  Fl c (stS (sl k)) iprop(outPt c (qo c 0 + 128 * k.val) 128 (outF m c) ∗ oPt c (sl k) qO (oF m c k))
/-- A chunk sent, its slot still being read; -/
def Pd (c : Dev nD) (k : Fin 8) : sProp 𝕄 := iprop(Wt c 2 k ∗ Wt c 4 k ∗ FO m c k)
/-- what is left of a chunk after its load, -/
def Dc (c : Dev nD) (k : Fin 8) : sProp 𝕄 := iprop(Asrc m c k ∗ rvPt c k (recvF m c) ∗ Zx c 1 k)
/-- after its slot is free again, -/
def Rt (c : Dev nD) (k : Fin 8) : sProp 𝕄 := iprop(Zx c 2 k ∗ Zx c 4 k ∗ outPt c (qo c 0 + 128 * k.val) 128 (outF m c))
/-- after passing on: the halves that stay, -/
def Fd (c : Dev nD) (k : Fin 8) : sProp 𝕄 :=
  iprop(Zx c 3 k ∗ Zx c 5 k ∗ outPt c (qo c 2 + 128 * k.val + 64) 64 (outF m c) ∗ outPt c (qo c 1 + 128 * k.val) 64 (outF m c))
/-- the halves that are being read; -/
def Tl (c : Dev nD) (k : Fin 8) : sProp 𝕄 := iprop(Wt c 8 k ∗ Wt c 6 k)
/-- the last arrivals, before -/
def TR (c : Dev nD) (k : Fin 8) : sProp 𝕄 := iprop(Wt c 9 k ∗ Wt c 7 k ∗ Wt c 0 k)
/-- and after, -/
def DR (c : Dev nD) (k : Fin 8) : sProp 𝕄 :=
  iprop(Zx c 9 k ∗ Zx c 7 k ∗ Zx c 0 k ∗ outPt c (qo c 3 + 128 * k.val) 64 (outF m c) ∗ outPt c (qo c 3 + 128 * k.val + 64) 64 (outF m c)
    ∗ pPt m c (bs (yPeer c) + 128 * k.val))
/-- and the passed-on halves back. -/
def DS (c : Dev nD) (k : Fin 8) : sProp 𝕄 :=
  iprop(Zx c 8 k ∗ Zx c 6 k ∗ outPt c (qo c 2 + 128 * k.val) 64 (outF m c) ∗ outPt c (qo c 1 + 128 * k.val + 64) 64 (outF m c))

/-! ## The work buffers -/

/-- A free slot of the own half, of the result, the free buffer of the partner's half; `gamma`. -/
def Sa (c : Dev nD) (s : Fin 2) : sProp 𝕄 := iprop((∃ f, aPt c s f) ∗ Zl c (ldS s))
def So (c : Dev nD) (s : Fin 2) : sProp 𝕄 := iprop((∃ f, oPt c s fullShare f) ∗ Zl c (stS s))
def Sb (c : Dev nD) : sProp 𝕄 := iprop((∃ f, bPt c f) ∗ Zl c (s5 2))
def Gp (c : Dev nD) : sProp 𝕄 := ((c : Thread nD τ).loc cc0_stg0_0) ↦{fullShare} (gm m c : Vec F S4096 .f32)

/-! ## The pieces -/

theorem amt_B {j : Fin 10} (h : j.val < 6) (k : Fin 8) : amtC (some (j, k)) = NB := if_pos h
theorem amt_H {j : Fin 10} (h : ¬ j.val < 6) (k : Fin 8) : amtC (some (j, k)) = NH := if_neg h
theorem amt_rv (k : Fin 8) (q : DmaSem sig) : (rv k).view.amount (.dma q) = NB := rfl
theorem amt_aS (s : Fin 2) (q : DmaSem sig) : (aS s).view.amount (.dma q) = NB := rfl
theorem amt_bM (q : DmaSem sig) : bM.view.amount (.dma q) = NB := rfl
theorem amt_outX (c : Dev nD) (k : Fin 8) : (outX c k).view.dmaCredit = NB := rfl
theorem amt_outZ (c : Dev nD) (k : Fin 8) : (outZ c k).view.dmaCredit = NB := rfl
theorem amt_pY (c : Dev nD) (k : Fin 8) : (pY c k).view.dmaCredit = NB := rfl
theorem amt_fwZ (c : Dev nD) (k : Fin 8) (q : DmaSem sig) : (fwZ c k).view.amount (.dma q) = NH := rfl
theorem amt_fwX (c : Dev nD) (k : Fin 8) (q : DmaSem sig) : (fwX c k).view.amount (.dma q) = NH := rfl
theorem amt_inZ (c : Dev nD) (k : Fin 8) : (inZ c k).view.dmaCredit = NH := rfl
theorem amt_inX (c : Dev nD) (k : Fin 8) : (inX c k).view.dmaCredit = NH := rfl
theorem amt_outO (c : Dev nD) (k : Fin 8) (q : DmaSem sig) : (outO c k).view.amount (.dma q) = NB := rfl

theorem tr_ySend (c : Dev nD) (k : Fin 8) : Tr m K c iprop(Sy m c k ∗ owesX c (3 + k.val)) iprop(Wt c 0 k ∗ owesX c (3 + k.val + 1)) (ySend c k) := by
  intro kt Q
  unfold ySend Sy
  simp only [Prog.lift, Prog.bind_op, Prog.bind_ret]
  iintro ⟨#HC, ⟨Hp, Hr, HS⟩, HO⟩ Hk
  iapply (send_x m K 0 1 k rfl (yDev_eq c k) (s8_0 k) (s8_1 k) ((amt_rv k _).trans (amt_B (by decide) k).symm) ((amt_B (by decide) k).trans (amt_B (by decide) k).symm) (q := fullShare) (fs := pm m c) (fd := rm m (yPeer c))
    (A := pPt m c (bs (yPeer c) + 128 * k.val)) (B := rvPt (yPeer c) k (rm m (yPeer c)))
    (by unfold pPt; rw [set_pY]) (by unfold rvPt; rw [set_rv]; exact .rfl)
    (by show _ ⊢ pPt m c (bs (yPeer c) + 128 * k.val); unfold pPt; rw [set_pY])
    (by
      rw [pointsTo_congr (landed (pY c k) (rv k) _ _ (recvF m (yPeer c)) (read_pY m c k)), set_rv]
      exact .rfl)) $$ [Hp Hr HS HO]
  · isplitr; · iexact HC
    isplitl [Hp]; · iexact Hp
    isplitl [Hr]; · iexact Hr
    isplitl [HS]; · iexact HS
    iexact HO
  iexact Hk

theorem tr_aLoad (c : Dev nD) (k : Fin 8) : Tr m K c iprop(Asrc m c k ∗ Sa c (sl k)) (FA m c k) (aLoad c k) := by
  intro kt Q
  unfold aLoad Sa
  simp only [Prog.lift, Prog.bind_op, Prog.bind_ret]
  iintro ⟨#HC, Hp, ⟨%f, Ha⟩, Hz⟩ Hk
  iapply (copy_l (sem := ldS (sl k)) (src := pA c k) (dst := aS (sl k)) (q := fullShare) (fs := pm m c) (fd := f) (amt_aS _ _) (A := Asrc m c k) (B := aPt c (sl k) f)
    (D := iprop(aPt c (sl k) (aF m c k) ∗ Asrc m c k))
    (by show pPt m c _ ⊢ _; unfold pPt; rw [set_pA]) (by unfold aPt; rw [set_aS])
    (by
      rw [pointsTo_congr (landed (pA c k) (aS (sl k)) _ _ (aF m c k) (read_pA m c k)), set_aS, set_pA]
      exact .rfl)) $$ [Hp Ha Hz]
  · isplitl [Hp]; · iexact Hp
    isplitl [Ha]; · iexact Ha
    iexact Hz
  iexact Hk

/-- A local semaphore is none of the scheduled ones. -/
theorem kind_ldS (s : Fin 2) : kind (.dma (ldS s)) = none := by revert s; decide +kernel
theorem kind_stS (s : Fin 2) : kind (.dma (stS s)) = none := by revert s; decide +kernel
theorem kind_b : kind (.dma (s5 2)) = none := by decide +kernel
/-- The arrivals of a chunk are below everything still owed when they are awaited. -/
theorem lv_y : ∀ (k : Fin 8) (t : TK), owedT t = true → 11 + 4 * k.val ≤ rank t → lvC (some (1, k)) < lvC (tci t) := by decide +kernel
theorem lv_xd : ∀ (k : Fin 8) (t : TK), owedT t = true → 21 + 4 * k.val ≤ rank t → lvC (some (3, k)) < lvC (tci t) := by decide +kernel
theorem lv_zd : ∀ (k : Fin 8) (t : TK), owedT t = true → 22 + 4 * k.val ≤ rank t → lvC (some (5, k)) < lvC (tci t) := by decide +kernel
theorem lv_end (i : CI) : ∀ t : TK, owedT t = true → 51 ≤ rank t → lvC i < lvC (tci t) := by
  have h : ∀ t : TK, owedT t = true → ¬ 51 ≤ rank t := by decide +kernel
  exact fun t h1 h2 => absurd h2 (h t h1)

theorem tr_bLoad (c : Dev nD) (k : Fin 8) : Tr m K c iprop(Wt c 1 k ∗ Sb c ∗ owesX c (11 + 4 * k.val))
    iprop(FB m c k ∗ Zx c 1 k ∗ owesX c (11 + 4 * k.val)) (bLoad c k) := by
  intro kt Q
  unfold bLoad Sb
  simp only [Prog.lift, Prog.bind_op, Prog.bind_ret]
  iintro ⟨#HC, HW, ⟨⟨%f, Hb⟩, Hz⟩, HO⟩ Hk
  iapply (wait_x m K 1 k (s8_1 k) ((amt_rv k (s8 cc0_scratch5 k)).trans (amt_B (by decide) k).symm) (11 + 4 * k.val) (lv_y k)) $$ [HW HO]
  · isplitr; · iexact HC
    isplitl [HW] <;> iassumption
  iintro ⟨Hr, Hx, HO⟩
  iapply (copy_l (sem := s5 2) (src := rv k) (dst := bM) (q := fullShare) (fs := recvF m c) (fd := f) (amt_bM _) (A := rvPt c k (recvF m c)) (B := bPt c f)
    (D := iprop(bPt c (bV m c k) ∗ rvPt c k (recvF m c)))
    (by unfold rvPt; rw [set_rv]) (by unfold bPt; rw [View.set_whole])
    (by
      rw [pointsTo_congr (landed (rv k) bM _ _ (bV m c k) (read_rv m c k)), set_rv, View.set_whole]
      exact .rfl)) $$ [Hr Hb Hz]
  · isplitl [Hr]; · unfold pay; iexact Hr
    isplitl [Hb] <;> iassumption
  iintro HF
  iapply Hk
  unfold FB
  isplitl [HF]; · iexact HF
  isplitl [Hx] <;> iassumption

theorem acc_o (s : Fin 2) : (oM.access (slR s)).set = band (s := S2x128x4096) 0 s.val 1 := (View.set_slice_whole cc0_scratch2 _).trans (set_slR s)
theorem ld_o (s : Fin 2) : oM.view.setOn (slR s).toLoadRect.set = band (s := S2x128x4096) 0 s.val 1 :=
  (View.set_slice oM.view (slR s)).symm.trans (acc_o s)
theorem ld_a (s : Fin 2) : aM.view.setOn (slR s).toLoadRect.set = band (s := S2x128x4096) 0 s.val 1 :=
  (View.set_slice aM.view (slR s)).symm.trans ((View.set_slice_whole cc0_scratch0 _).trans (set_slR s))

theorem tr_comp (c : Dev nD) (k : Fin 8) (n : ℕ) : Tr m K c iprop(FA m c k ∗ FB m c k ∗ Gp m c ∗ (∃ f, oPt c (sl k) fullShare f) ∗ owesX c n)
    iprop(Sa c (sl k) ∗ Sb c ∗ Asrc m c k ∗ rvPt c k (recvF m c) ∗ Gp m c ∗ oPt c (sl k) fullShare (oF m c k) ∗ owesX c n) (comp c k) := by
  intro kt Q
  unfold comp FA FB Gp
  simp only [Prog.lift, Prog.bind_op, Prog.bind_ret]
  iintro ⟨#HC, HA, HB, Hg, ⟨%f, Ho⟩, HO⟩ Hk
  iapply (wait_l m K (kind_ldS (sl k)) (amt_aS (sl k) (ldS (sl k))) n) $$ [HA HO]
  · isplitr; · iexact HC
    isplitl [HA] <;> iassumption
  iintro ⟨⟨Ha, Hs⟩, Hza, HO⟩
  iapply (wait_l m K kind_b (amt_bM (s5 2)) n) $$ [HB HO]
  · isplitr; · iexact HC
    isplitl [HB] <;> iassumption
  iintro ⟨⟨Hb, Hr⟩, Hzb, HO⟩
  unfold aPt bPt oPt
  iapply (wp_load 𝒱₀ (c : Thread nD τ) none Set.univ (m := aM) (by rw [ld_a])) $$ Ha; iintro Ha
  rw [load_a]
  iapply (wp_load 𝒱₀ (c : Thread nD τ) none Set.univ (m := bM) (Finset.subset_univ _)) $$ Hb; iintro Hb
  rw [load_b]
  iapply (wp_load 𝒱₀ (c : Thread nD τ) none Set.univ (m := gM) (Finset.subset_univ _)) $$ Hg; iintro Hg
  rw [load_g]
  iapply (wp_load 𝒱₀ (c : Thread nD τ) none Set.univ (m := oM) (by rw [ld_o])) $$ Ho; iintro Ho
  iapply (wp_store 𝒱₀ (c : Thread nD τ) none Set.univ (m := oM) (r := slR (sl k)) (Mk := Finset.univ) (by rw [View.setOn_univ, acc_o])) $$ Ho; iintro Ho
  have hres : payF (aV m c k) (bV m c k) (gm m c) k = res m c k := by unfold res; rfl
  have hst := store_o m c k f
  rw [acc_o] at hst
  have hst' : ((oM.access (slR (sl k))).loc (c : Thread nD τ) ↦[band (s := S2x128x4096) 0 (sl k).val 1]{fullShare}
      ((oM.access (slR (sl k))).write (Elt F) f (res m c k) Finset.univ) : sProp 𝕄) ⊢ oPt c (sl k) fullShare (oF m c k) := by
    rw [pointsTo_congr hst]; exact .rfl
  unfold oPt at hst'
  rw [hres]
  iapply Hk
  unfold Sa Sb
  isplitl [Ha Hza]
  · isplitl [Ha]; · iexists _; unfold aPt; iexact Ha
    iexact Hza
  isplitl [Hb Hzb]
  · isplitl [Hb]; · iexists _; unfold bPt; iexact Hb
    iexact Hzb
  isplitl [Hs]; · iexact Hs
  isplitl [Hr]; · iexact Hr
  isplitl [Hg]; · iexact Hg
  isplitl [Ho]; · iapply hst'; iexact Ho
  iexact HO

theorem tr_oSend (c : Dev nD) (k : Fin 8) : Tr m K c
    iprop(oPt c (sl k) fullShare (oF m c k) ∗ Zl c (stS (sl k)) ∗ St c 2 3 k ∗ St c 4 5 k ∗ outPt (xPeer c) (qo c 0 + 128 * k.val) 128 (om m (xPeer c))
      ∗ outPt (zPeer c) (qo c 0 + 128 * k.val) 128 (om m (zPeer c)) ∗ outPt c (qo c 0 + 128 * k.val) 128 (om m c) ∗ owesX c (11 + 4 * k.val))
    iprop(Pd m c k ∗ owesX c (13 + 4 * k.val)) (oSend c k) := by
  intro kt Q
  unfold oSend
  simp only [Prog.lift, Prog.bind_op, Prog.bind_ret]
  have hsh : ∀ q : PosShare TreeShare, (oPt c (sl k) q (oF m c k) : sProp 𝕄) ⊣⊢ iprop(oPt c (sl k) q.left (oF m c k) ∗ oPt c (sl k) q.right (oF m c k)) :=
    fun q => by unfold oPt; exact pointsTo_share (PosShare.mem_left_op_right q)
  iintro ⟨#HC, Ho, Hz, HSx, HSz, Hx, Hz', Hm, HO⟩ Hk
  ihave ⟨Hox, Ho⟩ := (hsh fullShare).1 $$ Ho
  ihave ⟨Hoz, Hoo⟩ := (hsh fullShare.right).1 $$ Ho
  iapply (send_x m K 2 3 k rfl (xDev_eq c k) (s8_2 k) (s8_3 k) ((amt_outO c k _).trans (amt_B (by decide) k).symm) ((amt_B (by decide) k).trans (amt_B (by decide) k).symm)
    (q := qX) (fs := oF m c k) (fd := om m (xPeer c)) (A := oPt c (sl k) qX (oF m c k)) (B := outPt (xPeer c) (qo c 0 + 128 * k.val) 128 (om m (xPeer c)))
    (by unfold oPt; rw [set_oS]) (by unfold outPt; rw [set_outO]; exact .rfl)
    (by show _ ⊢ oPt c (sl k) qX (oF m c k); unfold oPt; rw [set_oS])
    (by
      rw [pointsTo_congr (landed (oS (sl k)) (outO c k) _ _ (outF m c) (read_oS m c k)), set_outO]
      show _ ⊢ outPt (xPeer c) (qo (xPeer c) 2 + 128 * k.val) 128 (outF m (xPeer c))
      unfold qo; rw [(qn_x c).1, outF_x]; exact .rfl)) $$ [Hox Hx HSx HO]
  · isplitr; · iexact HC
    isplitl [Hox]; · iexact Hox
    isplitl [Hx]; · iexact Hx
    isplitl [HSx]; · iexact HSx
    iexact HO
  iintro ⟨HW2, HO⟩
  iapply (send_x m K 4 5 k rfl (zDev_eq c k) (s8_4 k) (s8_5 k) ((amt_outO c k _).trans (amt_B (by decide) k).symm) ((amt_B (by decide) k).trans (amt_B (by decide) k).symm)
    (q := qZ) (fs := oF m c k) (fd := om m (zPeer c)) (A := oPt c (sl k) qZ (oF m c k)) (B := outPt (zPeer c) (qo c 0 + 128 * k.val) 128 (om m (zPeer c)))
    (by unfold oPt; rw [set_oS]) (by unfold outPt; rw [set_outO]; exact .rfl)
    (by show _ ⊢ oPt c (sl k) qZ (oF m c k); unfold oPt; rw [set_oS])
    (by
      rw [pointsTo_congr (landed (oS (sl k)) (outO c k) _ _ (outF m c) (read_oS m c k)), set_outO]
      show _ ⊢ outPt (zPeer c) (qo (zPeer c) 1 + 128 * k.val) 128 (outF m (zPeer c))
      unfold qo; rw [(qn_z c).1, outF_z]; exact .rfl)) $$ [Hoz Hz' HSz HO]
  · isplitr; · iexact HC
    isplitl [Hoz]; · iexact Hoz
    isplitl [Hz']; · iexact Hz'
    isplitl [HSz]; · iexact HSz
    rw [show rank (.inr (5, k)) = rank (.inr (3, k)) + 1 from by show 12 + 4 * k.val = 11 + 4 * k.val + 1; omega]; iexact HO
  iintro ⟨HW4, HO⟩
  iapply (copy_l (sem := stS (sl k)) (src := oS (sl k)) (dst := outO c k) (q := qO) (fs := oF m c k) (fd := om m c) (amt_outO _ _ _)
    (A := oPt c (sl k) qO (oF m c k)) (B := outPt c (qo c 0 + 128 * k.val) 128 (om m c))
    (D := iprop(outPt c (qo c 0 + 128 * k.val) 128 (outF m c) ∗ oPt c (sl k) qO (oF m c k)))
    (by unfold oPt; rw [set_oS]) (by unfold outPt; rw [set_outO])
    (by
      rw [pointsTo_congr (landed (oS (sl k)) (outO c k) _ _ (outF m c) (read_oS m c k)), set_oS, set_outO]
      exact .rfl)) $$ [Hoo Hm Hz]
  · isplitl [Hoo]; · iexact Hoo
    isplitl [Hm] <;> iassumption
  iintro HF
  iapply Hk
  unfold Pd FO
  isplitr [HO]
  · isplitl [HW2]; · iexact HW2
    isplitl [HW4] <;> iassumption
  rw [show 13 + 4 * k.val = rank (.inr (5, k)) + 1 from by show _ = 12 + 4 * k.val + 1; omega]; iexact HO

theorem tr_retire (c : Dev nD) (k : Fin 8) (n : ℕ) : Tr m K c iprop(Pd m c k ∗ owesX c n) iprop(Rt m c k ∗ So c (sl k) ∗ owesX c n) (retire c k) := by
  intro kt Q
  unfold retire Pd FO
  simp only [Prog.lift, Prog.bind_op, Prog.bind_ret]
  have hsh : ∀ q : PosShare TreeShare, (oPt c (sl k) q (oF m c k) : sProp 𝕄) ⊣⊢ iprop(oPt c (sl k) q.left (oF m c k) ∗ oPt c (sl k) q.right (oF m c k)) :=
    fun q => by unfold oPt; exact pointsTo_share (PosShare.mem_left_op_right q)
  iintro ⟨#HC, ⟨H2, H4, HF⟩, HO⟩ Hk
  iapply (wait_x m K 2 k (s8_2 k) ((show (oS (sl k)).view.dmaCredit = NB from rfl).trans (amt_B (by decide) k).symm) n (fun t h _ => lv_owed t h)) $$ [H2 HO]
  · isplitr; · iexact HC
    isplitl [H2] <;> iassumption
  iintro ⟨Hx, Hz2, HO⟩
  iapply (wait_x m K 4 k (s8_4 k) ((show (oS (sl k)).view.dmaCredit = NB from rfl).trans (amt_B (by decide) k).symm) n (fun t h _ => lv_owed t h)) $$ [H4 HO]
  · isplitr; · iexact HC
    isplitl [H4] <;> iassumption
  iintro ⟨Hz, Hz4, HO⟩
  iapply (wait_l m K (kind_stS (sl k)) (amt_outO c k (stS (sl k))) n) $$ [HF HO]
  · isplitr; · iexact HC
    isplitl [HF] <;> iassumption
  iintro ⟨⟨Hm, Ho⟩, Hzs, HO⟩
  iapply Hk
  unfold Rt So pay
  isplitl [Hz2 Hz4 Hm]
  · isplitl [Hz2]; · iexact Hz2
    isplitl [Hz4] <;> iassumption
  isplitr [HO]
  · isplitr [Hzs]
    · iexists (oF m c k)
      iapply (hsh fullShare).2
      isplitl [Hx]; · iexact Hx
      iapply (hsh fullShare.right).2
      isplitl [Hz] <;> iassumption
    iexact Hzs
  iexact HO

/-- A band of 128 rows of the result is its two halves. -/
theorem outPt_halves (c : Dev nD) (B : ℕ) (f : Vec F S4096x4096 .f32) :
    (outPt c B 128 f : sProp 𝕄) ⊣⊢ iprop(outPt c B 64 f ∗ outPt c (B + 64) 64 f) := by
  unfold outPt
  have h : (((c : Thread nD τ).loc main_v1_0 ↦[band (s := S4096x4096) 0 B 64 ∪ band (s := S4096x4096) 0 (B + 64) 64]{fullShare} f : sProp 𝕄)) ⊣⊢ _ :=
    pointsTo_union (band_disjoint (s := S4096x4096) 0 (Or.inl le_rfl))
  rw [band_union] at h
  exact h

theorem tr_fwd (c : Dev nD) (k : Fin 8) : Tr m K c iprop(Fg m c k ∗ owesX c (21 + 4 * k.val)) iprop(Fd m c k ∗ Tl c k ∗ owesX c (23 + 4 * k.val)) (fwd c k) := by
  intro kt Q
  unfold fwd Fg
  simp only [Prog.lift, Prog.bind_op, Prog.bind_ret]
  iintro ⟨#HC, ⟨H3, H5, HSz, HSx, Hpz, Hpx⟩, HO⟩ Hk
  iapply (wait_x m K 3 k (s8_3 k) ((amt_outX c k).trans (amt_B (by decide) k).symm) (21 + 4 * k.val) (lv_xd k)) $$ [H3 HO]
  · isplitr; · iexact HC
    isplitl [H3] <;> iassumption
  iintro ⟨Hx, Hz3, HO⟩
  unfold pay
  ihave ⟨Hx1, Hx2⟩ := (outPt_halves c _ _).1 $$ Hx
  iapply (send_x m K 8 9 k rfl (zfDev_eq c k) (s8_8 k) (s8_9 k) ((amt_fwZ c k _).trans (amt_H (by decide) k).symm) ((amt_H (by decide) k).trans (amt_H (by decide) k).symm)
    (q := fullShare) (fs := outF m c) (fd := om m (zPeer c)) (A := outPt c (qo c 2 + 128 * k.val) 64 (outF m c)) (B := outPt (zPeer c) (qo c 2 + 128 * k.val) 64 (om m (zPeer c)))
    (by unfold outPt; rw [set_fwZ]) (by unfold outPt; rw [set_fwZ]; exact .rfl)
    (by show _ ⊢ outPt c (qo c 2 + 128 * k.val) 64 (outF m c); unfold outPt; rw [set_fwZ])
    (by
      rw [pointsTo_congr (landed (fwZ c k) (fwZ c k) _ _ (outF m c) (fun _ => rfl)), set_fwZ]
      show _ ⊢ outPt (zPeer c) (qo (zPeer c) 3 + 128 * k.val) 64 (outF m (zPeer c))
      unfold qo; rw [(qn_z c).2.2.1, outF_z]; exact .rfl)) $$ [Hx1 Hpz HSz HO]
  · isplitr; · iexact HC
    isplitl [Hx1]; · iexact Hx1
    isplitl [Hpz]; · iexact Hpz
    isplitl [HSz]; · iexact HSz
    iexact HO
  iintro ⟨HW8, HO⟩
  rw [show rank (.inr (9, k)) + 1 = 22 + 4 * k.val from by show 21 + 4 * k.val + 1 = _; omega]
  iapply (wait_x m K 5 k (s8_5 k) ((amt_outZ c k).trans (amt_B (by decide) k).symm) (22 + 4 * k.val) (lv_zd k)) $$ [H5 HO]
  · isplitr; · iexact HC
    isplitl [H5] <;> iassumption
  iintro ⟨Hz, Hz5, HO⟩
  unfold pay
  ihave ⟨Hz1, Hz2⟩ := (outPt_halves c _ _).1 $$ Hz
  iapply (send_x m K 6 7 k rfl (xfDev_eq c k) (s8_6 k) (s8_7 k) ((amt_fwX c k _).trans (amt_H (by decide) k).symm) ((amt_H (by decide) k).trans (amt_H (by decide) k).symm)
    (q := fullShare) (fs := outF m c) (fd := om m (xPeer c)) (A := outPt c (qo c 1 + 128 * k.val + 64) 64 (outF m c)) (B := outPt (xPeer c) (qo c 1 + 128 * k.val + 64) 64 (om m (xPeer c)))
    (by unfold outPt; rw [set_fwX]) (by unfold outPt; rw [set_fwX]; exact .rfl)
    (by show _ ⊢ outPt c (qo c 1 + 128 * k.val + 64) 64 (outF m c); unfold outPt; rw [set_fwX])
    (by
      rw [pointsTo_congr (landed (fwX c k) (fwX c k) _ _ (outF m c) (fun _ => rfl)), set_fwX]
      show _ ⊢ outPt (xPeer c) (qo (xPeer c) 3 + 128 * k.val + 64) 64 (outF m (xPeer c))
      unfold qo; rw [(qn_x c).2.2.1, outF_x]; exact .rfl)) $$ [Hz2 Hpx HSx HO]
  · isplitr; · iexact HC
    isplitl [Hz2]; · iexact Hz2
    isplitl [Hpx]; · iexact Hpx
    isplitl [HSx]; · iexact HSx
    iexact HO
  iintro ⟨HW6, HO⟩
  rw [show rank (.inr (7, k)) + 1 = 23 + 4 * k.val from by show 22 + 4 * k.val + 1 = _; omega]
  iapply Hk
  unfold Fd Tl
  isplitl [Hz3 Hz5 Hx2 Hz1]
  · isplitl [Hz3]; · iexact Hz3
    isplitl [Hz5]; · iexact Hz5
    isplitl [Hx2] <;> iassumption
  isplitr [HO]
  · isplitl [HW8] <;> iassumption
  iexact HO

theorem tr_tailR (c : Dev nD) (k : Fin 8) : Tr m K c iprop(TR c k ∗ owesX c 51) iprop(DR m c k ∗ owesX c 51) (tailR c k) := by
  intro kt Q
  unfold tailR TR
  simp only [Prog.lift, Prog.bind_op, Prog.bind_ret]
  iintro ⟨#HC, ⟨H9, H7, H0⟩, HO⟩ Hk
  iapply (wait_x m K 9 k (s8_9 k) ((amt_inZ c k).trans (amt_H (by decide) k).symm) 51 (lv_end _)) $$ [H9 HO]
  · isplitr; · iexact HC
    isplitl [H9] <;> iassumption
  iintro ⟨Hp9, Hz9, HO⟩
  iapply (wait_x m K 7 k (s8_7 k) ((amt_inX c k).trans (amt_H (by decide) k).symm) 51 (lv_end _)) $$ [H7 HO]
  · isplitr; · iexact HC
    isplitl [H7] <;> iassumption
  iintro ⟨Hp7, Hz7, HO⟩
  iapply (wait_x m K 0 k (s8_0 k) ((amt_pY c k).trans (amt_B (by decide) k).symm) 51 (lv_end _)) $$ [H0 HO]
  · isplitr; · iexact HC
    isplitl [H0] <;> iassumption
  iintro ⟨Hp0, Hz0, HO⟩
  iapply Hk
  unfold DR pay
  isplitr [HO]
  · isplitl [Hz9]; · iexact Hz9
    isplitl [Hz7]; · iexact Hz7
    isplitl [Hz0]; · iexact Hz0
    isplitl [Hp9]; · iexact Hp9
    isplitl [Hp7] <;> iassumption
  iexact HO

theorem tr_tailS (c : Dev nD) (k : Fin 8) : Tr m K c iprop(Tl c k ∗ owesX c 51) iprop(DS m c k ∗ owesX c 51) (tailS c k) := by
  intro kt Q
  unfold tailS Tl
  simp only [Prog.lift, Prog.bind_op, Prog.bind_ret]
  iintro ⟨#HC, ⟨H8, H6⟩, HO⟩ Hk
  iapply (wait_x m K 8 k (s8_8 k) ((amt_fwZ c k (xs 8 k)).trans (amt_H (by decide) k).symm) 51 (lv_end _)) $$ [H8 HO]
  · isplitr; · iexact HC
    isplitl [H8] <;> iassumption
  iintro ⟨Hp8, Hz8, HO⟩
  iapply (wait_x m K 6 k (s8_6 k) ((amt_fwX c k (xs 6 k)).trans (amt_H (by decide) k).symm) 51 (lv_end _)) $$ [H6 HO]
  · isplitr; · iexact HC
    isplitl [H6] <;> iassumption
  iintro ⟨Hp6, Hz6, HO⟩
  iapply Hk
  unfold DS pay
  isplitr [HO]
  · isplitl [Hz8]; · iexact Hz8
    isplitl [Hz6]; · iexact Hz6
    isplitl [Hp8] <;> iassumption
  iexact HO

end Cert.KernelIdeal.Run

end
-- ==== Proof.Whole.lean ====
/-
The whole body: the handshake, the transfers along `y`, the eight chunks, the last waits.
-/
module

public import proofs.«01_k».proof.Proof.Pieces

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ)

/-! ## Phases -/

/-- The phase of a chunk whose slot is free. -/
theorem tr_phaseA (c : Dev nD) (k k1 : Fin 8) : Tr m K c
    iprop((Asrc m c k1 ∗ Sa c (sl k1)) ∗ FA m c k ∗ Cg m c k ∗ Sb c ∗ So c (sl k) ∗ Gp m c ∗ owesX c (11 + 4 * k.val))
    iprop(FA m c k1 ∗ Sa c (sl k) ∗ Dc m c k ∗ Pd m c k ∗ Sb c ∗ Gp m c ∗ owesX c (13 + 4 * k.val)) (phaseA c k k1) := by
  intro kt Q
  unfold phaseA Cg So
  simp only [bind_assoc]
  iintro ⟨#HC, ⟨Hs1, Ha1⟩, HFA, ⟨HW, HSx, HSz, Hx, Hz, Hm⟩, HSb, ⟨Ho, Hst⟩, Hg, HO⟩ Hk
  iapply (tr_aLoad m K c k1 _ Q) $$ [Hs1 Ha1]
  · isplitr; · iexact HC
    isplitl [Hs1] <;> iassumption
  iintro HFA1
  iapply (tr_bLoad m K c k _ Q) $$ [HW HSb HO]
  · isplitr; · iexact HC
    isplitl [HW]; · iexact HW
    isplitl [HSb] <;> iassumption
  iintro ⟨HFB, Hz1, HO⟩
  iapply (tr_comp m K c k _ _ Q) $$ [HFA HFB Hg Ho HO]
  · isplitr; · iexact HC
    isplitl [HFA]; · iexact HFA
    isplitl [HFB]; · iexact HFB
    isplitl [Hg]; · iexact Hg
    isplitl [Ho] <;> iassumption
  iintro ⟨HSa, HSb, Hsrc, Hr, Hg, Ho, HO⟩
  iapply (tr_oSend m K c k _ Q) $$ [Ho Hst HSx HSz Hx Hz Hm HO]
  · isplitr; · iexact HC
    isplitl [Ho]; · iexact Ho
    isplitl [Hst]; · iexact Hst
    isplitl [HSx]; · iexact HSx
    isplitl [HSz]; · iexact HSz
    isplitl [Hx]; · iexact Hx
    isplitl [Hz]; · iexact Hz
    isplitl [Hm] <;> iassumption
  iintro ⟨HPd, HO⟩
  iapply Hk
  unfold Dc
  isplitl [HFA1]; · iexact HFA1
  isplitl [HSa]; · iexact HSa
  isplitl [Hsrc Hr Hz1]
  · isplitl [Hsrc]; · iexact Hsrc
    isplitl [Hr] <;> iassumption
  isplitl [HPd]; · iexact HPd
  isplitl [HSb]; · iexact HSb
  isplitl [Hg] <;> iassumption

/-- The phase of a chunk that takes over the slot of chunk `k2`, and passes chunk `k2` on. -/
theorem tr_phaseB (c : Dev nD) (k k2 : Fin 8) (h : k2.val + 2 = k.val) : Tr m K c
    iprop(FA m c k ∗ Cg m c k ∗ Sb c ∗ Gp m c ∗ Pd m c k2 ∗ Fg m c k2 ∗ owesX c (11 + 4 * k.val))
    iprop(Sa c (sl k) ∗ Dc m c k ∗ Pd m c k ∗ Rt m c k2 ∗ Fd m c k2 ∗ Tl c k2 ∗ Sb c ∗ Gp m c ∗ owesX c (15 + 4 * k.val)) (phaseB c k k2) := by
  intro kt Q
  have hsl : sl k2 = sl k := Fin.ext (by show k2.val % 2 = k.val % 2; omega)
  have hr := tr_retire m K c k2 (11 + 4 * k.val)
  rw [hsl] at hr
  have hf := tr_fwd m K c k2
  rw [show 21 + 4 * k2.val = 13 + 4 * k.val by omega, show 23 + 4 * k2.val = 15 + 4 * k.val by omega] at hf
  unfold So at hr
  unfold phaseB Cg
  simp only [bind_assoc]
  iintro ⟨#HC, HFA, ⟨HW, HSx, HSz, Hx, Hz, Hm⟩, HSb, Hg, HPd2, HFg, HO⟩ Hk
  iapply (tr_bLoad m K c k _ Q) $$ [HW HSb HO]
  · isplitr; · iexact HC
    isplitl [HW]; · iexact HW
    isplitl [HSb] <;> iassumption
  iintro ⟨HFB, Hz1, HO⟩
  iapply (hr _ Q) $$ [HPd2 HO]
  · isplitr; · iexact HC
    isplitl [HPd2] <;> iassumption
  iintro ⟨HRt, ⟨Ho, Hst⟩, HO⟩
  iapply (tr_comp m K c k _ _ Q) $$ [HFA HFB Hg Ho HO]
  · isplitr; · iexact HC
    isplitl [HFA]; · iexact HFA
    isplitl [HFB]; · iexact HFB
    isplitl [Hg]; · iexact Hg
    isplitl [Ho] <;> iassumption
  iintro ⟨HSa, HSb, Hsrc, Hr, Hg, Ho, HO⟩
  iapply (tr_oSend m K c k _ Q) $$ [Ho Hst HSx HSz Hx Hz Hm HO]
  · isplitr; · iexact HC
    isplitl [Ho]; · iexact Ho
    isplitl [Hst]; · iexact Hst
    isplitl [HSx]; · iexact HSx
    isplitl [HSz]; · iexact HSz
    isplitl [Hx]; · iexact Hx
    isplitl [Hz]; · iexact Hz
    isplitl [Hm] <;> iassumption
  iintro ⟨HPd, HO⟩
  iapply (hf _ Q) $$ [HFg HO]
  · isplitr; · iexact HC
    isplitl [HFg] <;> iassumption
  iintro ⟨HFd, HTl, HO⟩
  iapply Hk
  unfold Dc
  isplitl [HSa]; · iexact HSa
  isplitl [Hsrc Hr Hz1]
  · isplitl [Hsrc]; · iexact Hsrc
    isplitl [Hr] <;> iassumption
  isplitl [HPd]; · iexact HPd
  isplitl [HRt]; · iexact HRt
  isplitl [HFd]; · iexact HFd
  isplitl [HTl]; · iexact HTl
  isplitl [HSb]; · iexact HSb
  isplitl [Hg] <;> iassumption

/-! ## Eight alike -/

/-- A piece for each of the eight chunks, in order. -/
def all8 (p : Fin 8 → Pr (F := F) PUnit) : Pr (F := F) PUnit := do
  p 0; p 1; p 2; p 3; p 4; p 5; p 6; p 7

/-- Eight things apart. -/
theorem eight (A : Fin 8 → sProp 𝕄) : bigSep Finset.univ A = iprop(A 0 ∗ A 1 ∗ A 2 ∗ A 3 ∗ A 4 ∗ A 5 ∗ A 6 ∗ A 7) := by
  rw [bigSep_univ_eq_bigSepL [0, 1, 2, 3, 4, 5, 6, 7] (by decide) (by decide)]
  simp only [bigSepL_cons_cons, bigSepL_singleton]
  rfl

/-- Pairs apart are the firsts apart and the seconds apart. -/
theorem pairs (A B : Fin 8 → sProp 𝕄) : (bigSep Finset.univ fun k => iprop(A k ∗ B k)) = iprop(bigSep Finset.univ A ∗ bigSep Finset.univ B) := bigSep_sep _ _ _

theorem each {A B : Fin 8 → sProp 𝕄} (h : ∀ k, A k ⊢ B k) : bigSep Finset.univ A ⊢ bigSep Finset.univ B := bigSep_mono fun k _ => h k

theorem tr_seq {c : Dev nD} {R R' R'' : sProp 𝕄} {p q : Pr (F := F) PUnit} (hp : Tr m K c R R' p) (hq : Tr m K c R' R'' q) :
    Tr m K c R R'' (p >>= fun _ => q) := by
  intro kt Q
  simp only [bind_assoc]
  iintro ⟨#HC, HR⟩ Hk
  iapply (hp _ Q) $$ [HR]
  · isplitr; · iexact HC
    iexact HR
  iintro HR
  iapply (hq _ Q) $$ [HR]
  · isplitr; · iexact HC
    iexact HR
  iexact Hk

theorem tr_frame {c : Dev nD} {R R' : sProp 𝕄} {p : Pr (F := F) PUnit} (hp : Tr m K c R R' p) {S S' : sProp 𝕄} (X : sProp 𝕄)
    (h : S ⊢ iprop(R ∗ X)) (h' : iprop(R' ∗ X) ⊢ S') : Tr m K c S S' p := by
  intro kt Q
  iintro ⟨#HC, HS⟩ Hk
  ihave ⟨HR, HX⟩ := h $$ HS
  iapply (hp _ Q) $$ [HR]
  · isplitr; · iexact HC
    iexact HR
  iintro HR
  iapply Hk
  iapply h'
  isplitl [HR] <;> iassumption

/-- Eight pieces that each turn their chunk's `A` into `B`, with `s` duties paid by each. -/
theorem tr_all8 (c : Dev nD) (A B : Fin 8 → sProp 𝕄) (n s : ℕ) (p : Fin 8 → Pr (F := F) PUnit)
    (h : ∀ k : Fin 8, Tr m K c iprop(A k ∗ owesX c (n + s * k.val)) iprop(B k ∗ owesX c (n + s * (k.val + 1))) (p k)) :
    Tr m K c iprop(bigSep Finset.univ A ∗ owesX c n) iprop(bigSep Finset.univ B ∗ owesX c (n + s * 8)) (all8 p) := by
  -- after `j` chunks: the first `j` are done
  let Mid (j : ℕ) : sProp 𝕄 := iprop((bigSep Finset.univ fun k : Fin 8 => if k.val < j then B k else A k) ∗ owesX c (n + s * j))
  have step : ∀ k : Fin 8, Tr m K c (Mid k.val) (Mid (k.val + 1)) (p k) := fun k => by
    have e : ∀ (j : ℕ) (hj : ∀ k' : Fin 8, k' ≠ k → (k'.val < j ↔ k'.val < k.val)),
        (bigSep Finset.univ fun k' : Fin 8 => (if k'.val < j then B k' else A k' : sProp 𝕄))
          = iprop((if k.val < j then B k else A k) ∗ bigSep (Finset.univ.erase k) fun k' : Fin 8 => if k'.val < k.val then B k' else A k') := fun j hj => by
      rw [bigSep_erase (Finset.mem_univ k)]
      congr 1
      exact bigSep_congr fun k' hk' => by rw [if_congr (hj k' (Finset.ne_of_mem_erase hk')) rfl rfl]
    refine tr_frame m K (h k) (bigSep (Finset.univ.erase k) fun k' : Fin 8 => if k'.val < k.val then B k' else A k') ?_ ?_
    · show iprop((bigSep Finset.univ fun k' : Fin 8 => if k'.val < k.val then B k' else A k') ∗ owesX c (n + s * k.val)) ⊢ _
      rw [e k.val (fun _ _ => Iff.rfl), if_neg (lt_irrefl _)]
      iintro ⟨⟨H1, H2⟩, H3⟩
      isplitr [H2]
      · isplitl [H1] <;> iassumption
      iexact H2
    · show _ ⊢ iprop((bigSep Finset.univ fun k' : Fin 8 => if k'.val < k.val + 1 then B k' else A k') ∗ owesX c (n + s * (k.val + 1)))
      rw [e (k.val + 1) (fun k' hk' => by have : k'.val ≠ k.val := fun h => hk' (Fin.ext h); omega), if_pos (Nat.lt_succ_self _)]
      iintro ⟨⟨H1, H3⟩, H2⟩
      isplitr [H3]
      · isplitl [H1] <;> iassumption
      iexact H3
  have e0 : iprop((bigSep Finset.univ fun k : Fin 8 => A k) ∗ owesX c n) = Mid 0 := by
    show _ = iprop((bigSep Finset.univ fun k : Fin 8 => if k.val < 0 then B k else A k) ∗ owesX c (n + s * 0))
    simp only [Nat.not_lt_zero, if_false, Nat.mul_zero, Nat.add_zero]
  have e8 : iprop((bigSep Finset.univ fun k : Fin 8 => B k) ∗ owesX c (n + s * 8)) = Mid 8 := by
    show _ = iprop((bigSep Finset.univ fun k : Fin 8 => if k.val < 8 then B k else A k) ∗ owesX c (n + s * 8))
    simp only [Fin.is_lt, if_true]
  rw [e0, e8]
  exact tr_seq m K (step 0) (tr_seq m K (step 1) (tr_seq m K (step 2) (tr_seq m K (step 3) (tr_seq m K (step 4) (tr_seq m K (step 5) (tr_seq m K (step 6) (step 7)))))))

/-! ## The handshake -/

/-- What device `c` hands its three partners of its own buffers, and what it gets of theirs. -/
def Giv (c : Dev nD) : sProp 𝕄 :=
  iprop((bigSep Finset.univ fun k : Fin 8 => rvPt c k (rm m c))
    ∗ (bigSep Finset.univ fun k : Fin 8 => iprop(outPt c (qo c 2 + 128 * k.val) 128 (om m c) ∗ outPt c (qo c 3 + 128 * k.val + 64) 64 (om m c)))
    ∗ bigSep Finset.univ fun k : Fin 8 => iprop(outPt c (qo c 1 + 128 * k.val) 128 (om m c) ∗ outPt c (qo c 3 + 128 * k.val) 64 (om m c)))
/-- The right to signal the partners' barriers and to wait on the own. -/
def barR (c : Dev nD) : sProp 𝕄 :=
  iprop(dutyTok ER (kcell (yPeer c) none) 0 0 ∗ dutyTok ER (kcell (xPeer c) none) 0 1 ∗ dutyTok ER (kcell (zPeer c) none) 0 2
    ∗ cred (tallyAt (kcell c none) () 3) ∗ atPos ER (kcell c none) 0 ∅ 0)

theorem tr_bar (c : Dev nD) : Tr m K c iprop(Giv m c ∗ barR c ∗ owesX c 0)
    iprop((barPay m c 0 ∗ barPay m c 1 ∗ barPay m c 2) ∗ semVal (kcell c none) 0 ∗ owesX c 3) (barP c) := by
  intro kt Q
  unfold barP Giv barR
  simp only [semSignalWord, semWaitWord, Prog.lift, Prog.bind_op, Prog.bind_ret]
  iintro ⟨#HC, ⟨Gy, Gx, Gz⟩, ⟨Hty, Htx, Htz, Hcr, Hat⟩, HO⟩ Hk
  iapply (signal_b m K 0 (barDev1_eq c) (A := bigSep Finset.univ fun k : Fin 8 => rvPt c k (rm m c))
    (by show _ ⊢ barPay m (yPeer c) 0; unfold barPay; dsimp only; rw [yPeer_yPeer])) $$ [Gy Hty HO]
  · isplitr; · iexact HC
    isplitl [Gy]; · iexact Gy
    isplitl [Hty]; · iexact Hty
    iexact HO
  iintro HO
  iapply (signal_b m K 1 (barDev2_eq c) (A := bigSep Finset.univ fun k : Fin 8 => iprop(outPt c (qo c 2 + 128 * k.val) 128 (om m c) ∗ outPt c (qo c 3 + 128 * k.val + 64) 64 (om m c)))
    (by show _ ⊢ barPay m (xPeer c) 1; unfold barPay; dsimp only; unfold qo; rw [xPeer_xPeer, (qn_x c).2.1, (qn_x c).2.2.2])) $$ [Gx Htx HO]
  · isplitr; · iexact HC
    isplitl [Gx]; · iexact Gx
    isplitl [Htx]; · iexact Htx
    iexact HO
  iintro HO
  iapply (signal_b m K 2 (barDev3_eq c) (A := bigSep Finset.univ fun k : Fin 8 => iprop(outPt c (qo c 1 + 128 * k.val) 128 (om m c) ∗ outPt c (qo c 3 + 128 * k.val) 64 (om m c)))
    (by show _ ⊢ barPay m (zPeer c) 2; unfold barPay; dsimp only; unfold qo; rw [zPeer_zPeer, (qn_z c).2.1, (qn_z c).2.2.2])) $$ [Gz Htz HO]
  · isplitr; · iexact HC
    isplitl [Gz]; · iexact Gz
    isplitl [Htz]; · iexact Htz
    iexact HO
  iintro HO
  iapply (wait_b m K) $$ [Hcr Hat HO]
  · isplitr; · iexact HC
    isplitl [Hcr]; · iexact Hcr
    isplitl [Hat]; · iexact Hat
    iexact HO
  iintro ⟨H0, H1, H2, Hz, HO⟩
  iapply Hk
  isplitl [H0 H1 H2]
  · isplitl [H0]; · iexact H0
    isplitl [H1] <;> iassumption
  isplitl [Hz] <;> iassumption

/-! ## The eight chunks -/

/-- From the first load to the last chunk passed on. -/
def mid (c : Dev nD) : Pr (F := F) PUnit := do
  aLoad c 0
  phaseA c 0 1; phaseA c 1 2
  aLoad c 3; phaseB c 2 0
  aLoad c 4; phaseB c 3 1
  aLoad c 5; phaseB c 4 2
  aLoad c 6; phaseB c 5 3
  aLoad c 7; phaseB c 6 4
  phaseB c 7 5
  fwd c 6; fwd c 7

/-- The work buffers, all free. -/
def Slots (c : Dev nD) : sProp 𝕄 := iprop(Sa c 0 ∗ Sa c 1 ∗ So c 0 ∗ So c 1 ∗ Sb c)

/-- The load of a later chunk and the phase of chunk `k` that follows it: two chunks ahead, the slot free again. -/
theorem tr_step (c : Dev nD) (k k2 k1 : Fin 8) (h : k2.val + 2 = k.val) (h1 : k1.val = k.val + 1) : Tr m K c
    iprop((Asrc m c k1 ∗ Sa c (sl k1)) ∗ FA m c k ∗ Cg m c k ∗ Pd m c k2 ∗ Fg m c k2 ∗ Sb c ∗ Gp m c ∗ owesX c (11 + 4 * k.val))
    iprop((FA m c k1 ∗ Sa c (sl k) ∗ Pd m c k) ∗ (Dc m c k ∗ Rt m c k2 ∗ Fd m c k2 ∗ Tl c k2) ∗ Sb c ∗ Gp m c ∗ owesX c (11 + 4 * k1.val))
    (aLoad c k1 >>= fun _ => phaseB c k k2) := by
  intro kt Q
  simp only [bind_assoc]
  iintro ⟨#HC, ⟨Hs, Ha⟩, HFA, HCg, HPd, HFg, HSb, Hg, HO⟩ Hk
  iapply (tr_aLoad m K c k1 _ Q) $$ [Hs Ha]
  · isplitr; · iexact HC
    isplitl [Hs] <;> iassumption
  iintro HFA1
  iapply (tr_phaseB m K c k k2 h _ Q) $$ [HFA HCg HPd HFg HSb Hg HO]
  · isplitr; · iexact HC
    isplitl [HFA]; · iexact HFA
    isplitl [HCg]; · iexact HCg
    isplitl [HSb]; · iexact HSb
    isplitl [Hg]; · iexact Hg
    isplitl [HPd]; · iexact HPd
    isplitl [HFg] <;> iassumption
  iintro ⟨HSa, HDc, HPd, HRt, HFd, HTl, HSb, Hg, HO⟩
  iapply Hk
  isplitl [HFA1 HSa HPd]
  · isplitl [HFA1]; · iexact HFA1
    isplitl [HSa] <;> iassumption
  isplitl [HDc HRt HFd HTl]
  · isplitl [HDc]; · iexact HDc
    isplitl [HRt]; · iexact HRt
    isplitl [HFd] <;> iassumption
  isplitl [HSb]; · iexact HSb
  isplitl [Hg]; · iexact Hg
  rw [show 11 + 4 * k1.val = 15 + 4 * k.val by omega]; iexact HO

/-- The chunks' loads, computations and transfers: every chunk but the last two has its slot free again, every chunk is passed on. -/
theorem tr_mid (c : Dev nD) : Tr m K c
    iprop((bigSep Finset.univ fun k : Fin 8 => iprop(Asrc m c k ∗ Cg m c k ∗ Fg m c k)) ∗ Slots c ∗ Gp m c ∗ owesX c 11)
    iprop((bigSep Finset.univ fun k : Fin 8 => iprop(Dc m c k ∗ Fd m c k)) ∗ (bigSep Finset.univ fun k : Fin 8 => Tl c k)
      ∗ (Rt m c 0 ∗ Rt m c 1 ∗ Rt m c 2 ∗ Rt m c 3 ∗ Rt m c 4 ∗ Rt m c 5) ∗ Pd m c 6 ∗ Pd m c 7 ∗ Sa c 0 ∗ Sa c 1 ∗ Sb c ∗ Gp m c ∗ owesX c 51) (mid c) := by
  intro kt Q
  have e13 : (owesX c (13 + 4 * (0 : Fin 8).val) : sProp 𝕄) = owesX c (11 + 4 * (1 : Fin 8).val) := owesX_congr (O_13 c)
  have e17 : (owesX c (13 + 4 * (1 : Fin 8).val) : sProp 𝕄) = owesX c (11 + 4 * (2 : Fin 8).val) := owesX_congr (O_17 c)
  have e43 : (owesX c (15 + 4 * (7 : Fin 8).val) : sProp 𝕄) = owesX c (21 + 4 * (6 : Fin 8).val) := owesX_congr (O_43 c)
  have e47 : (owesX c (23 + 4 * (6 : Fin 8).val) : sProp 𝕄) = owesX c (21 + 4 * (7 : Fin 8).val) := owesX_congr (O_47 c)
  unfold mid Slots
  simp only [eight]
  iintro ⟨#HC, ⟨⟨A0, C0, F0⟩, ⟨A1, C1, F1⟩, ⟨A2, C2, F2⟩, ⟨A3, C3, F3⟩, ⟨A4, C4, F4⟩, ⟨A5, C5, F5⟩, ⟨A6, C6, F6⟩, ⟨A7, C7, F7⟩⟩, ⟨Sa0, Sa1, So0, So1, HSb⟩, Hg, HO⟩ Hk
  simp only [bind_assoc]
  iapply (tr_aLoad m K c 0 _ Q) $$ [A0 Sa0]
  · isplitr; · iexact HC
    isplitl [A0]; · iexact A0
    iexact Sa0
  iintro L0
  iapply (tr_phaseA m K c 0 1 _ Q) $$ [A1 Sa1 L0 C0 HSb So0 Hg HO]
  · isplitr; · iexact HC
    isplitl [A1 Sa1]
    · isplitl [A1]; · iexact A1
      iexact Sa1
    isplitl [L0]; · iexact L0
    isplitl [C0]; · iexact C0
    isplitl [HSb]; · iexact HSb
    isplitl [So0]; · iexact So0
    isplitl [Hg]; · iexact Hg
    iexact HO
  iintro ⟨L1, Sa0, D0, P0, HSb, Hg, HO⟩
  iapply (tr_phaseA m K c 1 2 _ Q) $$ [A2 Sa0 L1 C1 HSb So1 Hg HO]
  · isplitr; · iexact HC
    isplitl [A2 Sa0]
    · isplitl [A2]; · iexact A2
      iexact Sa0
    isplitl [L1]; · iexact L1
    isplitl [C1]; · iexact C1
    isplitl [HSb]; · iexact HSb
    isplitl [So1]; · iexact So1
    isplitl [Hg]; · iexact Hg
    rw [← e13]; iexact HO
  iintro ⟨L2, Sa1, D1, P1, HSb, Hg, HO⟩
  simp only [← bind_assoc (aLoad c _) (fun _ => phaseB c _ _)]
  iapply (tr_step m K c 2 0 3 rfl rfl _ Q) $$ [A3 Sa1 L2 C2 P0 F0 HSb Hg HO]
  · isplitr; · iexact HC
    isplitl [A3 Sa1]
    · isplitl [A3]; · iexact A3
      iexact Sa1
    isplitl [L2]; · iexact L2
    isplitl [C2]; · iexact C2
    isplitl [P0]; · iexact P0
    isplitl [F0]; · iexact F0
    isplitl [HSb]; · iexact HSb
    isplitl [Hg]; · iexact Hg
    rw [← e17]; iexact HO
  iintro ⟨⟨L3, Sa0, P2⟩, ⟨D2, R0, E0, T0⟩, HSb, Hg, HO⟩
  iapply (tr_step m K c 3 1 4 rfl rfl _ Q) $$ [A4 Sa0 L3 C3 P1 F1 HSb Hg HO]
  · isplitr; · iexact HC
    isplitl [A4 Sa0]
    · isplitl [A4]; · iexact A4
      iexact Sa0
    isplitl [L3]; · iexact L3
    isplitl [C3]; · iexact C3
    isplitl [P1]; · iexact P1
    isplitl [F1]; · iexact F1
    isplitl [HSb]; · iexact HSb
    isplitl [Hg]; · iexact Hg
    iexact HO
  iintro ⟨⟨L4, Sa1, P3⟩, ⟨D3, R1, E1, T1⟩, HSb, Hg, HO⟩
  iapply (tr_step m K c 4 2 5 rfl rfl _ Q) $$ [A5 Sa1 L4 C4 P2 F2 HSb Hg HO]
  · isplitr; · iexact HC
    isplitl [A5 Sa1]
    · isplitl [A5]; · iexact A5
      iexact Sa1
    isplitl [L4]; · iexact L4
    isplitl [C4]; · iexact C4
    isplitl [P2]; · iexact P2
    isplitl [F2]; · iexact F2
    isplitl [HSb]; · iexact HSb
    isplitl [Hg]; · iexact Hg
    iexact HO
  iintro ⟨⟨L5, Sa0, P4⟩, ⟨D4, R2, E2, T2⟩, HSb, Hg, HO⟩
  iapply (tr_step m K c 5 3 6 rfl rfl _ Q) $$ [A6 Sa0 L5 C5 P3 F3 HSb Hg HO]
  · isplitr; · iexact HC
    isplitl [A6 Sa0]
    · isplitl [A6]; · iexact A6
      iexact Sa0
    isplitl [L5]; · iexact L5
    isplitl [C5]; · iexact C5
    isplitl [P3]; · iexact P3
    isplitl [F3]; · iexact F3
    isplitl [HSb]; · iexact HSb
    isplitl [Hg]; · iexact Hg
    iexact HO
  iintro ⟨⟨L6, Sa1, P5⟩, ⟨D5, R3, E3, T3⟩, HSb, Hg, HO⟩
  iapply (tr_step m K c 6 4 7 rfl rfl _ Q) $$ [A7 Sa1 L6 C6 P4 F4 HSb Hg HO]
  · isplitr; · iexact HC
    isplitl [A7 Sa1]
    · isplitl [A7]; · iexact A7
      iexact Sa1
    isplitl [L6]; · iexact L6
    isplitl [C6]; · iexact C6
    isplitl [P4]; · iexact P4
    isplitl [F4]; · iexact F4
    isplitl [HSb]; · iexact HSb
    isplitl [Hg]; · iexact Hg
    iexact HO
  iintro ⟨⟨L7, Sa0, P6⟩, ⟨D6, R4, E4, T4⟩, HSb, Hg, HO⟩
  iapply (tr_phaseB m K c 7 5 rfl _ Q) $$ [L7 C7 HSb Hg P5 F5 HO]
  · isplitr; · iexact HC
    isplitl [L7]; · iexact L7
    isplitl [C7]; · iexact C7
    isplitl [HSb]; · iexact HSb
    isplitl [Hg]; · iexact Hg
    isplitl [P5]; · iexact P5
    isplitl [F5]; · iexact F5
    iexact HO
  iintro ⟨Sa1, D7, P7, R5, E5, T5, HSb, Hg, HO⟩
  iapply (tr_fwd m K c 6 _ Q) $$ [F6 HO]
  · isplitr; · iexact HC
    isplitl [F6]; · iexact F6
    rw [← e43]; iexact HO
  iintro ⟨E6, T6, HO⟩
  iapply (tr_fwd m K c 7 _ Q) $$ [F7 HO]
  · isplitr; · iexact HC
    isplitl [F7]; · iexact F7
    rw [← e47]; iexact HO
  iintro ⟨E7, T7, HO⟩
  iapply Hk
  isplitl [D0 E0 D1 E1 D2 E2 D3 E3 D4 E4 D5 E5 D6 E6 D7 E7]
  · isplitl [D0 E0]; · isplitl [D0] <;> iassumption
    isplitl [D1 E1]; · isplitl [D1] <;> iassumption
    isplitl [D2 E2]; · isplitl [D2] <;> iassumption
    isplitl [D3 E3]; · isplitl [D3] <;> iassumption
    isplitl [D4 E4]; · isplitl [D4] <;> iassumption
    isplitl [D5 E5]; · isplitl [D5] <;> iassumption
    isplitl [D6 E6]; · isplitl [D6] <;> iassumption
    isplitl [D7] <;> iassumption
  isplitl [T0 T1 T2 T3 T4 T5 T6 T7]
  · isplitl [T0]; · iexact T0
    isplitl [T1]; · iexact T1
    isplitl [T2]; · iexact T2
    isplitl [T3]; · iexact T3
    isplitl [T4]; · iexact T4
    isplitl [T5]; · iexact T5
    isplitl [T6] <;> iassumption
  isplitl [R0 R1 R2 R3 R4 R5]
  · isplitl [R0]; · iexact R0
    isplitl [R1]; · iexact R1
    isplitl [R2]; · iexact R2
    isplitl [R3]; · iexact R3
    isplitl [R4] <;> iassumption
  isplitl [P6]; · iexact P6
  isplitl [P7]; · iexact P7
  isplitl [Sa0]; · iexact Sa0
  isplitl [Sa1]; · iexact Sa1
  isplitl [HSb]; · iexact HSb
  isplitl [Hg]; · iexact Hg
  iexact HO

/-! ## The body -/

theorem prog_eq (c : Dev nD) : prog (F := F) c = (do
    barP c; all8 (ySend c); mid c; all8 (tailR c); all8 (tailS c); retire c 6; retire c 7) := by
  unfold prog all8 mid
  rfl

/-- Chunk `k` at launch: the rights of device `c`, its own rows of `partial` and of the result. -/
def Pre (c : Dev nD) (k : Fin 8) : sProp 𝕄 :=
  iprop((Wt c 1 k ∗ Wt c 3 k ∗ Wt c 5 k ∗ Wt c 7 k ∗ Wt c 9 k) ∗ (St c 0 1 k ∗ St c 2 3 k ∗ St c 4 5 k ∗ St c 6 7 k ∗ St c 8 9 k)
    ∗ pPt m c (bs (yPeer c) + 128 * k.val) ∗ Asrc m c k ∗ outPt c (qo c 0 + 128 * k.val) 128 (om m c))
/-- Chunk `k` at the end: its cells at rest, the rows of `partial` and of the landing buffer back, all of the result's rows in place. -/
def Post (c : Dev nD) (k : Fin 8) : sProp 𝕄 := iprop((Dc m c k ∗ Fd m c k) ∗ Rt m c k ∗ DR m c k ∗ DS m c k)

/-- What the handshake brought, chunk by chunk. -/
theorem deal_bar (c : Dev nD) : iprop((bigSep Finset.univ fun k : Fin 8 => Pre m c k) ∗ barPay m c 0 ∗ barPay m c 1 ∗ barPay m c 2)
    ⊢ iprop((bigSep Finset.univ fun k : Fin 8 => Sy m c k) ∗ (bigSep Finset.univ fun k : Fin 8 => iprop(Asrc m c k ∗ Cg m c k ∗ Fg m c k))
      ∗ bigSep Finset.univ fun k : Fin 8 => iprop(Wt c 9 k ∗ Wt c 7 k)) := by
  unfold barPay
  dsimp only
  simp only [← pairs]
  refine each fun k => ?_
  unfold Pre Sy Cg Fg
  iintro ⟨⟨⟨W1, W3, W5, W7, W9⟩, ⟨S01, S23, S45, S67, S89⟩, Hy, Ha, Ho⟩, Hr, ⟨Hx, Hx2⟩, ⟨Hz, Hz2⟩⟩
  isplitl [S01 Hy Hr]
  · isplitl [Hy]; · iexact Hy
    isplitl [Hr] <;> iassumption
  isplitr [W9 W7]
  · isplitl [Ha]; · iexact Ha
    isplitl [W1 S23 S45 Hx Hz Ho]
    · isplitl [W1]; · iexact W1
      isplitl [S23]; · iexact S23
      isplitl [S45]; · iexact S45
      isplitl [Hx]; · iexact Hx
      isplitl [Hz] <;> iassumption
    isplitl [W3]; · iexact W3
    isplitl [W5]; · iexact W5
    isplitl [S89]; · iexact S89
    isplitl [S67]; · iexact S67
    isplitl [Hz2] <;> iassumption
  isplitl [W9] <;> iassumption

/-- The body of device `c`. -/
theorem run_prog (c : Dev nD) (Q : PUnit → sProp 𝕄) :
    iprop(Ctx m K ∗ Giv m c ∗ barR c ∗ (bigSep Finset.univ fun k : Fin 8 => Pre m c k) ∗ Slots c ∗ Gp m c ∗ owesX c 0)
      ⊢ iprop(((bigSep Finset.univ fun k : Fin 8 => Post m c k) ∗ Slots c ∗ Gp m c ∗ semVal (kcell c none) 0 ∗ owesX c 51) -∗ Q ⟨⟩) -∗ WP c (prog c) Q := by
  have hy := tr_all8 m K c (Sy m c) (Wt c 0) 3 1 (ySend c) (fun k => by rw [Nat.one_mul, Nat.one_mul, ← Nat.add_assoc]; exact tr_ySend m K c k)
  have htR := tr_all8 m K c (TR c) (DR m c) 51 0 (tailR c) (fun k => by rw [Nat.zero_mul, Nat.zero_mul]; exact tr_tailR m K c k)
  have htS := tr_all8 m K c (Tl c) (DS m c) 51 0 (tailS c) (fun k => by rw [Nat.zero_mul, Nat.zero_mul]; exact tr_tailS m K c k)
  have hT : iprop((bigSep Finset.univ fun k : Fin 8 => iprop(Wt c 9 k ∗ Wt c 7 k)) ∗ bigSep Finset.univ (Wt c 0)) ⊢ (bigSep Finset.univ (TR c) : sProp 𝕄) := by
    rw [← pairs]
    refine each fun k => ?_
    unfold TR
    exact sep_assoc.1
  rw [prog_eq, ← bind_pure (retire c 7)]
  iintro ⟨#HC, HG, Hb, HP, HS, Hg, HO⟩ Hk
  iapply (tr_bar m K c _ Q) $$ [HG Hb HO]
  · isplitr; · iexact HC
    isplitl [HG]; · iexact HG
    isplitl [Hb] <;> iassumption
  iintro ⟨HB, Hzb, HO⟩
  ihave ⟨HSy, Hm, HT⟩ := (deal_bar m c) $$ [HP HB]
  · isplitl [HP] <;> iassumption
  iapply (hy _ Q) $$ [HSy HO]
  · isplitr; · iexact HC
    isplitl [HSy] <;> iassumption
  iintro ⟨HW0, HO⟩
  iapply (tr_mid m K c _ Q) $$ [Hm HS Hg HO]
  · isplitr; · iexact HC
    isplitl [Hm]; · iexact Hm
    isplitl [HS]; · iexact HS
    isplitl [Hg] <;> iassumption
  iintro ⟨HD, HTl, ⟨R0, R1, R2, R3, R4, R5⟩, P6, P7, Sa0, Sa1, HSb, Hg, HO⟩
  iapply (htR _ Q) $$ [HW0 HT HO]
  · isplitr; · iexact HC
    isplitr [HO]
    · iapply hT; isplitl [HT] <;> iassumption
    iexact HO
  iintro ⟨HDR, HO⟩
  iapply (htS _ Q) $$ [HTl HO]
  · isplitr; · iexact HC
    isplitl [HTl] <;> iassumption
  iintro ⟨HDS, HO⟩
  iapply (tr_retire m K c 6 51 _ Q) $$ [P6 HO]
  · isplitr; · iexact HC
    isplitl [P6] <;> iassumption
  iintro ⟨R6, So0, HO⟩
  iapply (tr_retire m K c 7 51 _ Q) $$ [P7 HO]
  · isplitr; · iexact HC
    isplitl [P7] <;> iassumption
  iintro ⟨R7, So1, HO⟩
  simp only [Prog.pure_eq_ret, wp_ret]
  imodintro
  iapply Hk
  isplitl [HD R0 R1 R2 R3 R4 R5 R6 R7 HDR HDS]
  · unfold Post
    rw [pairs (fun k : Fin 8 => iprop(Dc m c k ∗ Fd m c k)) (fun k => iprop(Rt m c k ∗ DR m c k ∗ DS m c k)),
      pairs (fun k : Fin 8 => Rt m c k) (fun k => iprop(DR m c k ∗ DS m c k)), pairs (fun k : Fin 8 => DR m c k) (fun k => DS m c k), eight (Rt m c)]
    isplitl [HD]; · iexact HD
    isplitl [R0 R1 R2 R3 R4 R5 R6 R7]
    · isplitl [R0]; · iexact R0
      isplitl [R1]; · iexact R1
      isplitl [R2]; · iexact R2
      isplitl [R3]; · iexact R3
      isplitl [R4]; · iexact R4
      isplitl [R5]; · iexact R5
      isplitl [R6] <;> iassumption
    isplitl [HDR] <;> iassumption
  isplitl [Sa0 Sa1 So0 So1 HSb]
  · unfold Slots
    isplitl [Sa0]; · iexact Sa0
    isplitl [Sa1]; · iexact Sa1
    isplitl [So0]; · iexact So0
    isplitl [So1]; · iexact So1
    iexact HSb
  isplitl [Hg]; · iexact Hg
  isplitl [Hzb]; · iexact Hzb
  iexact HO

end Cert.KernelIdeal.Run

end
-- ==== Proof.Split.lean ====
/-
The buffers of a device cut into the pieces the body uses, and glued again.
-/
module

public import proofs.«01_k».proof.Proof.Whole

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Bands of equal height -/

theorem band_biUnion {s : Shape} (a : Fin s.rank) (B w n : ℕ) (hw : 0 < w) :
    band (s := s) a B (w * n) = Finset.univ.biUnion fun k : Fin n => band (s := s) a (B + w * k.val) w := by
  ext i
  simp only [Finset.mem_biUnion, Finset.mem_univ, true_and, mem_band]
  constructor
  · rintro ⟨h1, h2⟩
    have h3 : ((i a).val - B) / w < n := by rw [Nat.div_lt_iff_lt_mul hw, Nat.mul_comm]; omega
    refine ⟨⟨((i a).val - B) / w, h3⟩, ?_⟩
    have h4 := Nat.div_add_mod ((i a).val - B) w
    have h5 := Nat.mod_lt ((i a).val - B) hw
    dsimp only
    omega
  · rintro ⟨k, h1, h2⟩
    have h3 : w * k.val + w ≤ w * n := by rw [← Nat.mul_succ]; exact Nat.mul_le_mul_left _ k.isLt
    omega

theorem band_apart {s : Shape} (a : Fin s.rank) (B w n : ℕ) :
    ∀ k ∈ (Finset.univ : Finset (Fin n)), ∀ k' ∈ Finset.univ, k ≠ k' → Disjoint (band (s := s) a (B + w * k.val) w) (band (s := s) a (B + w * k'.val) w) := by
  intro k _ k' _ h
  refine band_disjoint a ?_
  rcases Nat.lt_or_gt_of_ne (fun e => h (Fin.ext e) : k.val ≠ k'.val) with h' | h'
  · left; have : w * k.val + w ≤ w * k'.val := by rw [← Nat.mul_succ]; exact Nat.mul_le_mul_left _ h'
    omega
  · right; have : w * k'.val + w ≤ w * k.val := by rw [← Nat.mul_succ]; exact Nat.mul_le_mul_left _ h'
    omega

/-! ## The result -/

/-- 1024 rows of the result are eight chunks. -/
theorem out_chunks (c : Dev nD) (B : ℕ) (f : Vec F S4096x4096 .f32) :
    (outPt c B (128 * 8) f : sProp 𝕄) = bigSep Finset.univ fun k : Fin 8 => outPt c (B + 128 * k.val) 128 f := by
  unfold outPt
  rw [band_biUnion (s := S4096x4096) 0 B 128 8 (by decide)]
  exact pointsTo_biUnion _ _ (band_apart 0 B 128 8)

theorem four (A : Fin 4 → sProp 𝕄) : bigSep Finset.univ A = iprop(A 0 ∗ A 1 ∗ A 2 ∗ A 3) := by
  rw [bigSep_univ_eq_bigSepL [0, 1, 2, 3] (by decide) (by decide)]
  simp only [bigSepL_cons_cons, bigSepL_singleton]
  rfl

/-- A device's quarter, in chunks. -/
abbrev outQ (c : Dev nD) (q : Fin 4) (f : Vec F S4096x4096 .f32) : sProp 𝕄 := bigSep Finset.univ fun k : Fin 8 => outPt c (qo c q + 128 * k.val) 128 f

/-- The whole result is its four quarters, in the device's own numbering. -/
theorem out_split (c : Dev nD) (f : Vec F S4096x4096 .f32) :
    (((c : Thread nD τ).loc main_v1_0) ↦{fullShare} f : sProp 𝕄) = iprop(outQ c 0 f ∗ outQ c 1 f ∗ outQ c 2 f ∗ outQ c 3 f) := by
  have h : (((c : Thread nD τ).loc main_v1_0) ↦{fullShare} f : sProp 𝕄) = bigSep Finset.univ fun q : Fin 4 => outPt c (1024 * q.val) 1024 f := by
    have e : (Finset.univ : Finset S4096x4096.Idx) = Finset.univ.biUnion fun k : Fin 4 => band (s := S4096x4096) 0 (0 + 1024 * k.val) 1024 := by
      rw [← band_biUnion (s := S4096x4096) 0 0 1024 4 (by decide)]; exact (band_univ (s := S4096x4096) 0 rfl).symm
    refine (congrArg (fun I => (((c : Thread nD τ).loc main_v1_0) ↦[I]{fullShare} f : sProp 𝕄)) e).trans ((pointsTo_biUnion _ _ (band_apart 0 0 1024 4)).trans ?_)
    simp only [Nat.zero_add]; rfl
  rw [h, bigSep_univ_equiv (qEquiv c), four]
  simp only [outQ, ← out_chunks]
  rfl

/-! ## The landing buffer -/

theorem rv_split (c : Dev nD) (f : Vec F S1024x4096 .f32) :
    (((c : Thread nD τ).loc main_v1_1) ↦{fullShare} f : sProp 𝕄) = bigSep Finset.univ fun k : Fin 8 => rvPt c k f := by
  have e : (Finset.univ : Finset S1024x4096.Idx) = Finset.univ.biUnion fun k : Fin 8 => band (s := S1024x4096) 0 (0 + 128 * k.val) 128 := by
    rw [← band_biUnion (s := S1024x4096) 0 0 128 8 (by decide)]; exact (band_univ (s := S1024x4096) 0 rfl).symm
  refine (congrArg (fun I => (((c : Thread nD τ).loc main_v1_1) ↦[I]{fullShare} f : sProp 𝕄)) e).trans ((pointsTo_biUnion _ _ (band_apart 0 0 128 8)).trans ?_)
  simp only [Nat.zero_add]; rfl

/-! ## `partial` -/

theorem p_chunks (c : Dev nD) (B : ℕ) :
    (((c : Thread nD τ).loc main_arg0) ↦[band (s := S1x8192x4096) 1 B (128 * 8)]{fullShare} pm m c : sProp 𝕄) = bigSep Finset.univ fun k : Fin 8 => pPt m c (B + 128 * k.val) := by
  unfold pPt
  rw [band_biUnion (s := S1x8192x4096) 1 B 128 8 (by decide)]
  exact pointsTo_biUnion _ _ (band_apart 1 B 128 8)

/-- The rows of `partial` the run leaves alone. -/
def pRem (c : Dev nD) : sProp 𝕄 :=
  ((c : Thread nD τ).loc main_arg0) ↦[(Finset.univ \ band (s := S1x8192x4096) 1 (bs c) (128 * 8)) \ band (s := S1x8192x4096) 1 (bs (yPeer c)) (128 * 8)]{fullShare} pm m c

theorem bs_apart (c : Dev nD) : bs (yPeer c) + 128 * 8 ≤ bs c ∨ bs c + 128 * 8 ≤ bs (yPeer c) := by revert c; decide +kernel

theorem p_split (c : Dev nD) :
    (((c : Thread nD τ).loc main_arg0) ↦{fullShare} pm m c : sProp 𝕄)
      ⊣⊢ iprop((bigSep Finset.univ fun k : Fin 8 => Asrc m c k) ∗ (bigSep Finset.univ fun k : Fin 8 => pPt m c (bs (yPeer c) + 128 * k.val)) ∗ pRem m c) := by
  have h1 : (((c : Thread nD τ).loc main_arg0) ↦{fullShare} pm m c : sProp 𝕄) ⊣⊢ _ :=
    pointsTo_split_subset (I := band (s := S1x8192x4096) 1 (bs c) (128 * 8)) (Finset.subset_univ _)
  have h2 : (((c : Thread nD τ).loc main_arg0) ↦[Finset.univ \ band (s := S1x8192x4096) 1 (bs c) (128 * 8)]{fullShare} pm m c : sProp 𝕄) ⊣⊢ _ :=
    pointsTo_split_subset (I := band (s := S1x8192x4096) 1 (bs (yPeer c)) (128 * 8)) (Finset.subset_sdiff.mpr ⟨Finset.subset_univ _, band_disjoint 1 (bs_apart c)⟩)
  rw [p_chunks] at h1 h2
  constructor
  · refine h1.1.trans (sep_mono_right h2.1)
  · exact (sep_mono_right h2.2).trans h1.2

/-! ## All three -/

/-- A device's own rows of a chunk. -/
def Own (c : Dev nD) (k : Fin 8) : sProp 𝕄 := iprop(pPt m c (bs (yPeer c) + 128 * k.val) ∗ Asrc m c k ∗ outPt c (qo c 0 + 128 * k.val) 128 (om m c))

theorem split_bufs (c : Dev nD) :
    iprop((((c : Thread nD τ).loc main_arg0) ↦{fullShare} pm m c) ∗ (((c : Thread nD τ).loc main_v1_0) ↦{fullShare} om m c) ∗ (((c : Thread nD τ).loc main_v1_1) ↦{fullShare} rm m c))
      ⊢ iprop(Giv m c ∗ (bigSep Finset.univ fun k : Fin 8 => Own m c k) ∗ pRem m c) := by
  have h3 : outQ c 3 (om m c) ⊢ iprop((bigSep Finset.univ fun k : Fin 8 => outPt c (qo c 3 + 128 * k.val) 64 (om m c)) ∗ bigSep Finset.univ fun k : Fin 8 => outPt c (qo c 3 + 128 * k.val + 64) 64 (om m c)) := by
    rw [← pairs]; exact each fun k => (outPt_halves c _ _).1
  unfold Own Giv
  rw [rv_split, out_split, pairs, pairs, pairs, pairs]
  iintro ⟨Hp, ⟨H0, H1, H2, H3⟩, Hr⟩
  ihave ⟨Ha, Hy, HR⟩ := (p_split m c).1 $$ Hp
  ihave ⟨H3a, H3b⟩ := h3 $$ H3
  isplitl [Hr H1 H2 H3a H3b]
  · isplitl [Hr]; · iexact Hr
    isplitl [H2 H3b]
    · isplitl [H2] <;> iassumption
    isplitl [H1] <;> iassumption
  isplitr [HR]
  · isplitl [Hy]; · iexact Hy
    isplitl [Ha] <;> iassumption
  iexact HR

/-- The cells of a chunk at rest. -/
def Rest (c : Dev nD) (k : Fin 8) : sProp 𝕄 :=
  iprop(Zx c 0 k ∗ Zx c 1 k ∗ Zx c 2 k ∗ Zx c 3 k ∗ Zx c 4 k ∗ Zx c 5 k ∗ Zx c 6 k ∗ Zx c 7 k ∗ Zx c 8 k ∗ Zx c 9 k)

theorem post_split (c : Dev nD) (k : Fin 8) :
    Post m c k ⊢ iprop(Rest c k ∗ Asrc m c k ∗ pPt m c (bs (yPeer c) + 128 * k.val) ∗ rvPt c k (recvF m c)
      ∗ outPt c (qo c 0 + 128 * k.val) 128 (outF m c) ∗ outPt c (qo c 1 + 128 * k.val) 128 (outF m c)
      ∗ outPt c (qo c 2 + 128 * k.val) 128 (outF m c) ∗ outPt c (qo c 3 + 128 * k.val) 128 (outF m c)) := by
  unfold Post Dc Fd Rt DR DS Rest
  iintro ⟨⟨⟨Ha, Hr, Z1⟩, Z3, Z5, H2b, H1a⟩, ⟨Z2, Z4, H0⟩, ⟨Z9, Z7, Z0, H3a, H3b, Hy⟩, Z8, Z6, H2a, H1b⟩
  isplitl [Z0 Z1 Z2 Z3 Z4 Z5 Z6 Z7 Z8 Z9]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8] <;> iassumption
  isplitl [Ha]; · iexact Ha
  isplitl [Hy]; · iexact Hy
  isplitl [Hr]; · iexact Hr
  isplitl [H0]; · iexact H0
  isplitl [H1a H1b]
  · iapply (outPt_halves c _ _).2; isplitl [H1a] <;> iassumption
  isplitl [H2a H2b]
  · iapply (outPt_halves c _ _).2; isplitl [H2a] <;> iassumption
  iapply (outPt_halves c _ _).2; isplitl [H3a] <;> iassumption

theorem join_bufs (c : Dev nD) :
    iprop((bigSep Finset.univ fun k : Fin 8 => Post m c k) ∗ pRem m c)
      ⊢ iprop((bigSep Finset.univ fun k : Fin 8 => Rest c k) ∗ (((c : Thread nD τ).loc main_arg0) ↦{fullShare} pm m c)
        ∗ (((c : Thread nD τ).loc main_v1_0) ↦{fullShare} outF m c)) := by
  have h := (each fun k => post_split m c k)
  rw [pairs, pairs, pairs, pairs, pairs, pairs, pairs] at h
  rw [out_split]
  iintro ⟨HP, HR⟩
  ihave ⟨HZ, Ha, Hy, -, H0, H1, H2, H3⟩ := h $$ HP
  isplitl [HZ]; · iexact HZ
  isplitl [Ha Hy HR]
  · iapply (p_split m c).2
    isplitl [Ha]; · iexact Ha
    isplitl [Hy] <;> iassumption
  isplitl [H0]; · iexact H0
  isplitl [H1]; · iexact H1
  isplitl [H2] <;> iassumption

/-! ## The work buffers -/

theorem two_slots : (Finset.univ : Finset S2x128x4096.Idx) = band (s := S2x128x4096) 0 0 1 ∪ band (s := S2x128x4096) 0 1 1 := by
  have := band_union (s := S2x128x4096) 0 0 1 1
  rw [Nat.zero_add] at this
  exact (band_univ (s := S2x128x4096) 0 rfl).symm.trans this.symm
theorem slots_apart : Disjoint (band (s := S2x128x4096) 0 0 1) (band (s := S2x128x4096) 0 1 1) := band_disjoint 0 (Or.inl (by decide))

theorem a_split (c : Dev nD) :
    (iprop(∃ f : Buf (Elt F) ((c : Thread nD τ).loc cc0_scratch0), ((c : Thread nD τ).loc cc0_scratch0) ↦{fullShare} f) : sProp 𝕄) ⊣⊢ iprop((∃ f, aPt c 0 f) ∗ ∃ f, aPt c 1 f) := by
  have hs (f : Vec F S2x128x4096 .f32) : (((c : Thread nD τ).loc cc0_scratch0) ↦{fullShare} f : sProp 𝕄) ⊢ iprop(aPt c 0 f ∗ aPt c 1 f) :=
    (Entails.of_eq (congrArg (fun I => (((c : Thread nD τ).loc cc0_scratch0) ↦[I]{fullShare} f : sProp 𝕄)) two_slots)).trans (pointsTo_union slots_apart).1
  have hj (f g : Vec F S2x128x4096 .f32) : iprop(aPt c 0 f ∗ aPt c 1 g)
      ⊢ (((c : Thread nD τ).loc cc0_scratch0) ↦{fullShare} ((band (s := S2x128x4096) 0 1 1).piecewise g f : Vec F S2x128x4096 .f32) : sProp 𝕄) :=
    (pointsTo_join slots_apart).trans (Entails.of_eq (congrArg (fun I => (((c : Thread nD τ).loc cc0_scratch0) ↦[I]{fullShare} _ : sProp 𝕄)) two_slots.symm))
  constructor
  · iintro ⟨%f, H⟩
    ihave ⟨H0, H1⟩ := (hs f) $$ H
    isplitl [H0]
    · iexists f; iexact H0
    iexists f; iexact H1
  · iintro ⟨⟨%f, H0⟩, ⟨%g, H1⟩⟩
    iexists _
    iapply (hj f g)
    isplitl [H0] <;> iassumption

theorem o_split (c : Dev nD) :
    (iprop(∃ f : Buf (Elt F) ((c : Thread nD τ).loc cc0_scratch2), ((c : Thread nD τ).loc cc0_scratch2) ↦{fullShare} f) : sProp 𝕄) ⊣⊢ iprop((∃ f, oPt c 0 fullShare f) ∗ ∃ f, oPt c 1 fullShare f) := by
  have hs (f : Vec F S2x128x4096 .f32) : (((c : Thread nD τ).loc cc0_scratch2) ↦{fullShare} f : sProp 𝕄) ⊢ iprop(oPt c 0 fullShare f ∗ oPt c 1 fullShare f) :=
    (Entails.of_eq (congrArg (fun I => (((c : Thread nD τ).loc cc0_scratch2) ↦[I]{fullShare} f : sProp 𝕄)) two_slots)).trans (pointsTo_union slots_apart).1
  have hj (f g : Vec F S2x128x4096 .f32) : iprop(oPt c 0 fullShare f ∗ oPt c 1 fullShare g)
      ⊢ (((c : Thread nD τ).loc cc0_scratch2) ↦{fullShare} ((band (s := S2x128x4096) 0 1 1).piecewise g f : Vec F S2x128x4096 .f32) : sProp 𝕄) :=
    (pointsTo_join slots_apart).trans (Entails.of_eq (congrArg (fun I => (((c : Thread nD τ).loc cc0_scratch2) ↦[I]{fullShare} _ : sProp 𝕄)) two_slots.symm))
  constructor
  · iintro ⟨%f, H⟩
    ihave ⟨H0, H1⟩ := (hs f) $$ H
    isplitl [H0]
    · iexists f; iexact H0
    iexists f; iexact H1
  · iintro ⟨⟨%f, H0⟩, ⟨%g, H1⟩⟩
    iexists _
    iapply (hj f g)
    isplitl [H0] <;> iassumption

end Cert.KernelIdeal.Run

end
-- ==== Proof.Deal.lean ====
/-
The launch: the cells set up, their tokens dealt to the devices that pay them, the credit of what is owed to a device.
-/
module

public import proofs.«01_k».proof.Proof.Split

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's semaphores -/

/-- The five local semaphores and the eighty of the transfers. -/
abbrev osem : Fin 5 ⊕ (Fin 10 × Fin 8) → SemLoc sig
  | .inl i => .dma (s5 i)
  | .inr p => csem (some p)

theorem osem_scoped : ∀ k, (osem k).isScoped .tc = true := by
  rintro (i | ⟨j, k⟩)
  · revert i; decide +kernel
  · revert j k; decide +kernel
theorem s5_injective : ∀ i i' : Fin 5, s5 i = s5 i' → i = i' := by decide +kernel
theorem kind_s5 (i : Fin 5) : kind (.dma (s5 i)) = none := by revert i; decide +kernel
theorem osem_injective : Function.Injective osem := by
  rintro (i | p) (i' | p') h
  · exact congrArg _ (s5_injective i i' (SemLoc.dma.inj h))
  · exact absurd ((kind_s5 i).symm.trans ((congrArg kind h).trans (kind_csem (some p')))) (by simp)
  · exact absurd ((kind_s5 i').symm.trans ((congrArg kind h.symm).trans (kind_csem (some p)))) (by simp)
  · exact congrArg _ (Option.some.inj (csem_injective h))
theorem osem_apart : ∀ (k) (w : Fin 1) (s : Fin (cfg0.spec w).nbuf), osem k ≠ .dma ((cfg0.spec w).sem s) := by
  have h : ∀ (i : Fin 5) (w : Fin 1) (s : Fin (cfg0.spec w).nbuf), s5 i ≠ (cfg0.spec w).sem s := by decide +kernel
  have h' : ∀ (w : Fin 1) (s : Fin (cfg0.spec w).nbuf), kind (.dma ((cfg0.spec w).sem s)) = none := by decide +kernel
  rintro (i | p) w s e
  · exact h i w s (SemLoc.dma.inj e)
  · exact absurd ((h' w s).symm.trans ((congrArg kind e.symm).trans (kind_csem (some p)))) (by simp)
theorem ownSemFacts : Pipeline.OwnSemFacts cfg0.spec osem := ⟨osem_scoped, osem_injective, osem_apart⟩

/-! ## Conjunctions over the cells -/

/-- Over a device's cells: the barrier and the eighty. -/
theorem cells_eq (A : CI → sProp 𝕄) : bigSep Finset.univ A = iprop(A none ∗ bigSep Finset.univ fun p => A (some p)) := by
  rw [bigSep_univ_at A none, show (Finset.univ : Finset CI).erase none = (Finset.univ : Finset (Fin 10 × Fin 8)).map Function.Embedding.some from by
    ext i; cases i <;> simp, bigSep_map]
  rfl
theorem sums_eq {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem ten (A : Fin 10 → sProp 𝕄) : bigSep Finset.univ A = iprop(A 0 ∗ A 1 ∗ A 2 ∗ A 3 ∗ A 4 ∗ A 5 ∗ A 6 ∗ A 7 ∗ A 8 ∗ A 9) := by
  rw [bigSep_univ_eq_bigSepL [0, 1, 2, 3, 4, 5, 6, 7, 8, 9] (by decide) (by decide)]
  simp only [bigSepL_cons_cons, bigSepL_singleton]
  rfl
theorem three (A : Fin 3 → sProp 𝕄) : bigSep Finset.univ A = iprop(A 0 ∗ A 1 ∗ A 2) := by
  rw [bigSep_univ_eq_bigSepL [0, 1, 2] (by decide) (by decide)]
  simp only [bigSepL_cons_cons, bigSepL_singleton]
  rfl
theorem five (A : Fin 5 → sProp 𝕄) : bigSep Finset.univ A = iprop(A 0 ∗ A 1 ∗ A 2 ∗ A 3 ∗ A 4) := by
  rw [bigSep_univ_eq_bigSepL [0, 1, 2, 3, 4] (by decide) (by decide)]
  simp only [bigSepL_cons_cons, bigSepL_singleton]
  rfl
/-- Over the eighty: chunk by chunk, array by array. -/
theorem chunks_eq (A : Fin 10 × Fin 8 → sProp 𝕄) :
    bigSep Finset.univ A = bigSep Finset.univ fun k : Fin 8 =>
      iprop(A (0, k) ∗ A (1, k) ∗ A (2, k) ∗ A (3, k) ∗ A (4, k) ∗ A (5, k) ∗ A (6, k) ∗ A (7, k) ∗ A (8, k) ∗ A (9, k)) := by
  rw [bigSep_univ_equiv (Equiv.prodComm (Fin 8) (Fin 10)) A, bigSep_univ_prod]
  exact bigSep_congr fun k _ => ten _

/-! ## Cells and tokens -/

theorem kcell_injective : Function.Injective (fun ci : Dev nD × CI => kcell ci.1 ci.2) := by
  rintro ⟨c, i⟩ ⟨c', i'⟩ h
  have h1 : c = c' := congrArg (fun g : GSem nD τ sig => g.1.1) h
  have h2 : i = i' := csem_injective (congrArg Prod.snd h)
  rw [h1, h2]
def allCells : Finset (GSem nD τ sig) := Finset.univ.map ⟨_, kcell_injective⟩

abbrev tokOf (ct : Dev nD × TK) : GSem nD τ sig × ℕ × Fin 3 := (kcell ct.1 (tci ct.2), 0, tdu ct.2)
theorem tokOf_injective : Function.Injective tokOf := by
  rintro ⟨c, t⟩ ⟨c', t'⟩ h
  have h1 := kcell_injective (a₁ := (c, tci t)) (a₂ := (c', tci t')) (congrArg Prod.fst h)
  have h2 : tdu t = tdu t' := congrArg (fun x : GSem nD τ sig × ℕ × Fin 3 => x.2.2) h
  have h3 : c = c' := congrArg Prod.fst h1
  have h4 : tci t = tci t' := congrArg Prod.snd h1
  subst h3
  congr 1
  rcases t with d | p <;> rcases t' with d' | p'
  · exact congrArg _ h2
  · cases h4
  · cases h4
  · exact congrArg _ (Option.some.inj h4)
def allToks : Finset (GSem nD τ sig × ℕ × Fin 3) := Finset.univ.map ⟨tokOf, tokOf_injective⟩

/-- The launch element: the pipeline's and the protocol's. -/
def u₀ : UU := (initOf (Pipeline.cells cfgs cellOf_inj) (Pipeline.launchToks cfgs cellOf_inj), (initOf allCells allToks, 1))

/-- The tokens of device `c`'s own cells; -/
def toks (c : Dev nD) : sProp 𝕄 := bigSep Finset.univ fun t : TK => dutyTok ER (kcell c (tci t)) 0 (tdu t)
/-- those of the duties device `c` pays. -/
def payToks (c : Dev nD) : sProp 𝕄 := bigSep Finset.univ fun t : TK => dutyTok ER (kcell (tgt t c) (tci t)) 0 (tdu t)
/-- The local semaphores at rest. -/
def locals (c : Dev nD) : sProp 𝕄 := bigSep Finset.univ fun i : Fin 5 => Zl c (s5 i)
/-- The positions in the cells. -/
def posns (c : Dev nD) : sProp 𝕄 := bigSep Finset.univ fun i : CI => atPos ER (kcell c i) 0 ∅ 0

def G (c : Dev nD) : sProp 𝕄 :=
  iprop((bigSep Finset.univ fun i : CI => roundState ER (sched m) (kcell c i) 0) ∗ posns c
    ∗ (bigSep Finset.univ fun i : CI => reached ER (kcell c i) 0) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = iprop(locals c ∗ bigSep Finset.univ fun p => semVal (kcell c (some p)) 0) := by
  unfold Pipeline.ownSems0; rw [sums_eq]; rfl
theorem unscopedSems0_eq (c : Dev nD) : (unscopedSems0 c : sProp 𝕄) = semVal (kcell c none) 0 := by
  unfold unscopedSems0; rw [bigSep_eq_bigSepL_of_eq [SemLoc.reg barS] (by decide +kernel) (by decide)]; rfl

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (sched m) κ (kcell c i)))
          ∗ (bigSep Finset.univ fun i : CI => reached ER (kcell c i) 0) ∗ posns c ∗ toks c ∗ locals c) := by
  rw [ownSems0_eq, unscopedSems0_eq]
  unfold G
  iintro ⟨⟨Hl, Hs⟩, Hb, Hst, Hat, Hr, Htok⟩
  imod (show iprop((bigSep Finset.univ fun i : CI => semVal (kcell c i) 0) ∗ bigSep Finset.univ fun i : CI => roundState ER (sched m) (kcell c i) 0)
      ⊢ (|={Set.univ}=> bigSep Finset.univ fun i : CI => iprop(∃ κ : ℕ, cellInv ER (sched m) κ (kcell c i)) : sProp 𝕄) from by
        rw [← bigSep_sep']
        exact (bigSep_mono fun i _ => (Rounds.body_intro ER (sched m) (kcell c i)).trans inv_alloc).trans (bigSep_fupd _ _)) $$ [Hs Hb Hst] with Hinv
  · isplitl [Hs Hb]
    · rw [cells_eq]; isplitl [Hb] <;> iassumption
    iexact Hst
  imodintro
  isplitl [Hinv]; · iexact Hinv
  isplitl [Hr]; · iexact Hr
  isplitl [Hat]; · iexact Hat
  isplitl [Htok] <;> iassumption

/-- The tokens go to the devices that pay. -/
def around : Dev nD × TK ≃ Dev nD × TK :=
  ⟨fun ct => (tgt ct.2 ct.1, ct.2), fun ct => (tgt ct.2 ct.1, ct.2), fun ct => by simp only [tgt_tgt], fun ct => by simp only [tgt_tgt]⟩
theorem toks_around : (bigSep Finset.univ fun c : Dev nD => (toks c : sProp 𝕄)) = bigSep Finset.univ fun c : Dev nD => payToks c := by
  unfold toks payToks
  rw [← bigSep_univ_prod (fun ct : Dev nD × TK => (dutyTok ER (kcell ct.1 (tci ct.2)) 0 (tdu ct.2) : sProp 𝕄)), bigSep_univ_equiv around, bigSep_univ_prod]
  rfl

/-- What the global step leaves a device. -/
def G' (c : Dev nD) : sProp 𝕄 := iprop(∃ K, records m K ∗ posns c ∗ payToks c ∗ locals c)

theorem all_with {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun i : CI => iprop(∃ κ : ℕ, cellInv ER (sched m) κ (kcell c i)))
          ∗ (bigSep Finset.univ fun i : CI => reached ER (kcell c i) 0) ∗ posns c ∗ toks c ∗ locals c) : sProp 𝕄)
      ⊢ bigSep Finset.univ (G' m) := by
  rw [bigSep_sep', bigSep_sep', bigSep_sep', bigSep_sep', toks_around,
    ← bigSep_univ_prod (fun ci : Dev nD × CI => iprop(∃ κ : ℕ, cellInv ER (sched m) κ (kcell ci.1 ci.2))),
    ← bigSep_univ_prod (fun ci : Dev nD × CI => (reached ER (kcell ci.1 ci.2) 0 : sProp 𝕄))]
  iintro ⟨HI, #HR, Hat, Htok, Hl⟩
  ihave HK := (BI.bigSep_exists_pi Finset.univ (fun (ci : Dev nD × CI) (κ : ℕ) => (cellInv ER (sched m) κ (kcell ci.1 ci.2) : sProp 𝕄))) $$ HI
  icases HK with ⟨%K, #HI⟩
  iapply (all_with (R := records m K) (Φ := fun c => iprop(posns c ∗ payToks c ∗ locals c)) fun c => by
    unfold G'; iintro H; iexists K; iexact H)
  isplitr
  · unfold records; isplitl; · iexact HI
    iexact HR
  rw [bigSep_sep', bigSep_sep']
  isplitl [Hat]; · iexact Hat
  isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- How many duties of a cell are owed from the launch on. -/
abbrev due (i : CI) : Finset TK := Finset.univ.filter fun t => owedT t = true ∧ tci t = i

theorem owed_sum (c : Dev nD) (i : CI) : ∑ d : Dev nD, O 0 d (kcell c i) () = (due i).card * amtC i := by
  have h1 (d : Dev nD) : O 0 d (kcell c i) () = ∑ t ∈ oweSet 0, if d = tgt t c ∧ tci t = i then amtC i else 0 := by
    unfold O
    rw [Finset.sum_apply, Finsupp.finset_sum_apply]
    refine Finset.sum_congr rfl fun t _ => ?_
    rw [tallyAt_apply]
    by_cases h : d = tgt t c ∧ tci t = i
    · obtain ⟨rfl, rfl⟩ := h
      rw [tgt_tgt, if_pos ⟨rfl, rfl⟩, if_pos ⟨rfl, rfl⟩]
    · rw [if_neg h, if_neg]
      rintro ⟨e, -⟩
      have e' := kcell_injective (a₁ := (c, i)) (a₂ := (tgt t d, tci t)) e
      have e1 : c = tgt t d := congrArg Prod.fst e'
      have e2 : i = tci t := congrArg Prod.snd e'
      exact h ⟨by rw [e1, tgt_tgt], e2.symm⟩
  rw [Finset.sum_congr rfl fun d _ => h1 d, Finset.sum_comm]
  have h2 (t : TK) : (∑ d : Dev nD, if d = tgt t c ∧ tci t = i then amtC i else 0) = if tci t = i then amtC i else 0 := by
    by_cases h : tci t = i
    · simp [h]
    · simp [h]
  rw [Finset.sum_congr rfl fun t _ => h2 t, ← Finset.sum_filter, Finset.sum_const, smul_eq_mul]
  congr 2
  ext t
  simp [oweSet]

theorem due_bar : (due none).card = 3 := by decide +kernel
theorem due_recv (j : Fin 10) (k : Fin 8) (h : j.val % 2 = 1) : (due (some (j, k))).card = 1 := by
  have : ∀ (j : Fin 10) (k : Fin 8), j.val % 2 = 1 → (due (some (j, k))).card = 1 := by decide +kernel
  exact this j k h

theorem launch_cell (c : Dev nD) (i : CI) :
    tallyOn (kcell c i) (launchCredit (Pipeline.owing (O 0)) 0 (kcell c i)) = (tallyAt (kcell c i) () ((due i).card * amtC i) : CellTallies nD τ sig Unit) := by
  unfold tallyAt; refine congrArg _ (Finsupp.ext fun u => ?_); cases u
  rw [Pipeline.launchCredit_owing, Finsupp.single_eq_same, owed_sum]

theorem creds (c : Dev nD) :
    (Pipeline.launchCred (O 0) c : sProp 𝕄) ⊢ bigSep Finset.univ fun i : CI => cred (tallyAt (kcell c i) () ((due i).card * amtC i)) := by
  unfold Pipeline.launchCred
  refine (show _ ⊢ bigSep (Finset.univ.map ⟨csem, csem_injective⟩) _ from bigSep_subset (Finset.subset_univ _)).trans (Entails.of_eq ?_)
  rw [bigSep_map]
  exact bigSep_congr fun i _ => congrArg cred (launch_cell c i)

/-! ## The rights of a device -/

def Rts (c : Dev nD) (k : Fin 8) : sProp 𝕄 :=
  iprop((Wt c 1 k ∗ Wt c 3 k ∗ Wt c 5 k ∗ Wt c 7 k ∗ Wt c 9 k) ∗ (St c 0 1 k ∗ St c 2 3 k ∗ St c 4 5 k ∗ St c 6 7 k ∗ St c 8 9 k))

theorem cred_recv (c : Dev nD) (j : Fin 10) (k : Fin 8) (h : j.val % 2 = 1) :
    (cred (tallyAt (kcell c (some (j, k))) () ((due (some (j, k))).card * amtC (some (j, k)))) : sProp 𝕄) = cred (tallyAt (kcell c (some (j, k))) () (amtC (some (j, k)))) := by
  rw [due_recv j k h, Nat.one_mul]

theorem rights (c : Dev nD) :
    (iprop((bigSep Finset.univ fun i : CI => cred (tallyAt (kcell c i) () ((due i).card * amtC i))) ∗ posns c ∗ payToks c) : sProp 𝕄)
      ⊢ iprop(barR c ∗ bigSep Finset.univ fun k : Fin 8 => Rts c k) := by
  have h : iprop((bigSep Finset.univ fun p => cred (tallyAt (kcell c (some p)) () ((due (some p)).card * amtC (some p))))
      ∗ (bigSep Finset.univ fun p => atPos ER (kcell c (some p)) 0 ∅ 0) ∗ bigSep Finset.univ fun p => dutyTok ER (kcell (tgt (.inr p) c) (some p)) 0 0)
      ⊢ (bigSep Finset.univ fun k : Fin 8 => Rts c k : sProp 𝕄) := by
    simp only [chunks_eq]
    rw [← pairs, ← pairs]
    refine each fun k => ?_
    unfold Rts Wt St
    rw [cred_recv c 1 k rfl, cred_recv c 3 k rfl, cred_recv c 5 k rfl, cred_recv c 7 k rfl, cred_recv c 9 k rfl]
    iintro ⟨⟨-, C1, -, C3, -, C5, -, C7, -, C9⟩, ⟨P0, P1, P2, P3, P4, P5, P6, P7, P8, P9⟩, T0, T1, T2, T3, T4, T5, T6, T7, T8, T9⟩
    isplitl [C1 P1 C3 P3 C5 P5 C7 P7 C9 P9]
    · isplitl [C1 P1]; · isplitl [C1] <;> iassumption
      isplitl [C3 P3]; · isplitl [C3] <;> iassumption
      isplitl [C5 P5]; · isplitl [C5] <;> iassumption
      isplitl [C7 P7]; · isplitl [C7] <;> iassumption
      isplitl [C9] <;> iassumption
    isplitl [P0 T0 T1]
    · isplitl [P0]; · iexact P0
      isplitl [T0]; · iexact T0
      iexact T1
    isplitl [P2 T2 T3]
    · isplitl [P2]; · iexact P2
      isplitl [T2]; · iexact T2
      iexact T3
    isplitl [P4 T4 T5]
    · isplitl [P4]; · iexact P4
      isplitl [T4]; · iexact T4
      iexact T5
    isplitl [P6 T6 T7]
    · isplitl [P6]; · iexact P6
      isplitl [T6]; · iexact T6
      iexact T7
    isplitl [P8]; · iexact P8
    isplitl [T8]; · iexact T8
    iexact T9
  unfold posns payToks barR
  rw [cells_eq, cells_eq, sums_eq, three, due_bar, show 3 * amtC none = 3 from rfl]
  iintro ⟨⟨Cb, C⟩, ⟨Pb, P⟩, ⟨T0, T1, T2⟩, T⟩
  isplitl [Cb Pb T0 T1 T2]
  · isplitl [T0]; · iexact T0
    isplitl [T1]; · iexact T1
    isplitl [T2]; · iexact T2
    isplitl [Cb] <;> iassumption
  iapply h
  isplitl [C]; · iexact C
  isplitl [P] <;> iassumption

end Cert.KernelIdeal.Run

end
-- ==== Proof.Launch.lean ====
/-
The run: the body on every device, from the launch to quiescence.
-/
module

public import proofs.«01_k».proof.Proof.Deal
public import proofs.«01_k».proof.Proof.Gen.KernelIdeal.Points
public import Idealize.ShloMosaic.Lib.Pipeline.CollectiveSegs
public import Idealize.ShloMosaic.Lib.Quiescent

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Work buffers and local semaphores -/

theorem slots_intro (c : Dev nD) : iprop(Pipeline.scopedRest cfg0.spec c ∗ locals c) ⊢ (Slots c : sProp 𝕄) := by
  rw [scopedRest0_eq]
  unfold locals Slots Sa So Sb
  rw [five]
  iintro ⟨⟨Ha, Hb, Ho⟩, L0, L1, L2, L3, L4⟩
  ihave ⟨Ha0, Ha1⟩ := (a_split c).1 $$ Ha
  ihave ⟨Ho0, Ho1⟩ := (o_split c).1 $$ Ho
  isplitl [Ha0 L0]
  · isplitl [Ha0]; · iexact Ha0
    iexact L0
  isplitl [Ha1 L1]
  · isplitl [Ha1]; · iexact Ha1
    iexact L1
  isplitl [Ho0 L3]
  · isplitl [Ho0]; · iexact Ho0
    iexact L3
  isplitl [Ho1 L4]
  · isplitl [Ho1]; · iexact Ho1
    iexact L4
  isplitl [Hb]
  · icases Hb with ⟨%f, Hb⟩; iexists f; unfold bPt; iexact Hb
  iexact L2

theorem slots_elim (c : Dev nD) : (Slots c : sProp 𝕄) ⊢ iprop(Pipeline.scopedRest cfg0.spec c ∗ locals c) := by
  rw [scopedRest0_eq]
  unfold locals Slots Sa So Sb
  rw [five]
  iintro ⟨⟨Ha0, L0⟩, ⟨Ha1, L1⟩, ⟨Ho0, L3⟩, ⟨Ho1, L4⟩, Hb, L2⟩
  isplitl [Ha0 Ha1 Hb Ho0 Ho1]
  · isplitl [Ha0 Ha1]
    · iapply (a_split c).2; isplitl [Ha0] <;> iassumption
    isplitl [Hb]
    · icases Hb with ⟨%f, Hb⟩; iexists f; unfold bPt; iexact Hb
    iapply (o_split c).2; isplitl [Ho0] <;> iassumption
  isplitl [L0]; · iexact L0
  isplitl [L1]; · iexact L1
  isplitl [L2]; · iexact L2
  isplitl [L3]; · iexact L3
  iexact L4

/-! ## The proof data -/

/-- What a device starts with, but for its work buffers; -/
def start (c : Dev nD) : sProp 𝕄 :=
  iprop((∃ K, Ctx m K) ∗ Giv m c ∗ barR c ∗ (bigSep Finset.univ fun k : Fin 8 => Pre m c k) ∗ pRem m c ∗ locals c)
/-- with them; -/
def Φ₀ (c : Dev nD) : sProp 𝕄 :=
  iprop(((∃ K, Ctx m K) ∗ Giv m c ∗ barR c ∗ (bigSep Finset.univ fun k : Fin 8 => Pre m c k) ∗ pRem m c) ∗ Slots c)
/-- and what it ends with. -/
def Φ₁ (c : Dev nD) : sProp 𝕄 :=
  iprop((bigSep Finset.univ fun k : Fin 8 => Post m c k) ∗ Slots c ∗ semVal (kcell c none) 0 ∗ pRem m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gm m c
  Φ t := match t with
    | ⟨0, _⟩ => Φ₀ m c
    | ⟨_ + 1, _⟩ => Φ₁ m c
  q _ := fullShare
  owed t := match t with
    | ⟨0, _⟩ => O 0 c
    | ⟨_ + 1, _⟩ => 0

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged `gamma`. -/
theorem staged (c : Dev nD) (d) : (dats m ρ 0 c).before (0 : Fin 1) t0_0 d = gm m c := by
  unfold Dat.before
  rw [if_pos (fetch0_0 t0_0)]
  funext i
  show gm m c (((cfg0.win 0).blk t0_0).view.emb i) = gm m c i
  congr 1
  funext a
  fin_cases a
  apply Fin.ext
  show 0 + 1 * (i 0).val = (i 0).val
  omega

abbrev stg (c : Dev nD) (X : Vec F S4096 .f32) : sProp 𝕄 :=
  iprop(∃ f : Buf (Elt F) (((c : Dev nD) : Thread nD τ).loc cc0_stg0_0), ⌜f = X⌝ ∗ (((c : Thread nD τ).loc cc0_stg0_0) ↦{fullShare} f))

set_option maxHeartbeats 800000 in
theorem sound_body (c : Dev nD) :
    iprop(Φ₀ m c ∗ (dats m ρ 0 c).owesAt () t0_0.castSucc ∗ ∃ d, stg c ((dats m ρ 0 c).before (0 : Fin 1) t0_0 d))
      ⊢ wp frame (wpE (defs₀ (F := F)) 𝒱₀ (c : Thread nD τ) none) Set.univ
          (cc0_body (F := F) pM (Memref.isWhole_whole _) gM (Memref.isWhole_whole _) outM (Memref.isWhole_whole _) rvM (Memref.isWhole_whole _)
            aM (Memref.isWhole_whole _) bM (Memref.isWhole_whole _) oM (Memref.isWhole_whole _)
            cc0_scratch3 cc0_scratch4 cc0_scratch5 cc0_scratch6 cc0_scratch7 cc0_scratch8 cc0_scratch9 cc0_scratch10 cc0_scratch11 cc0_scratch12 cc0_scratch13)
          (fun _ => iprop(Φ₁ m c ∗ (dats m ρ 0 c).owesAt () t0_0.succ ∗ stg c (gm m c))) := by
  rw [cc0_body_eq, wp_deviceId]
  unfold Φ₀ Φ₁ Dat.owesAt Pipeline.owesWithin
  rw [show (dats m ρ 0 c).owed t0_0.castSucc = O 0 c from rfl, show (dats m ρ 0 c).owed t0_0.succ = 0 from rfl]
  iintro ⟨⟨⟨⟨%K, #HC⟩, HG, Hb, HP, HR⟩, HS⟩, ⟨%W, %hW, HO⟩, ⟨%d, %g, %hg, Hg⟩⟩
  rw [staged m ρ c d] at hg
  subst hg
  iapply (run_prog m K c _) $$ [HG Hb HP HS Hg HO]
  · isplitr; · iexact HC
    isplitl [HG]; · iexact HG
    isplitl [Hb]; · iexact Hb
    isplitl [HP]; · iexact HP
    isplitl [HS]; · iexact HS
    isplitl [Hg]; · unfold Gp; iexact Hg
    unfold owesX; iexists W; iexact HO
  iintro ⟨HP, HS, Hg, Hz, HO⟩
  unfold owesX
  rw [O_51]
  icases HO with ⟨%W', HO⟩
  isplitl [HP HS Hz HR]
  · isplitl [HP]; · iexact HP
    isplitl [HS]; · iexact HS
    isplitl [Hz] <;> iassumption
  isplitl [HO]
  · iexists W'
    isplitr; · ipureintro; exact fun _ _ => Or.inl trivial
    iexact HO
  iexists (gm m c)
  isplitr; · (ipureintro; rfl)
  unfold Gp; iexact Hg

set_option maxRecDepth 65536 in
theorem body_obligation (c : Dev nD) : BodyObligation (dats (F := F) m ρ 0 c) (defs₀ (F := F)) 𝒱₀ () Set.univ := fun t => by
  rw [fin_N0 t]
  rw [show (bigSep (Finset.univ : Finset (Fin cfg0.W)) : _ → sProp 𝕄) = fun Φ => Φ (0 : Fin 1) from funext fun Φ => bigSep_W0 Φ]
  simp only [owns_whole_eq]
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (O 0) c ∗ prngReg c (ρ c) ∗ G' m c)
      ⊢ |={Set.univ}=> iprop(start m c ∗ emp) := by
  have hP : iprop((bigSep Finset.univ fun k : Fin 8 => Rts c k) ∗ bigSep Finset.univ fun k : Fin 8 => Own m c k) ⊢ (bigSep Finset.univ fun k : Fin 8 => Pre m c k : sProp 𝕄) := by
    rw [← pairs]
    refine each fun k => ?_
    unfold Rts Own Pre
    iintro ⟨⟨H1, H2⟩, H3⟩
    isplitl [H1]; · iexact H1
    isplitl [H2]; · iexact H2
    iexact H3
  have hb : (Pipeline.unscopedRestP Pipeline.Prefetch.none cfg0.spec c (fun b => m ((c : Thread nD τ).loc b)) : sProp 𝕄)
      ⊢ iprop(Giv m c ∗ (bigSep Finset.univ fun k : Fin 8 => Own m c k) ∗ pRem m c) := by
    rw [Pipeline.unscopedRestP_none]
    exact (Entails.of_eq (unscopedRest0_eq c _)).trans (split_bufs m c)
  unfold G' start
  iintro ⟨Hb, #Hlev, Hcr, -, ⟨%K, #HR, Hat, Htok, Hl⟩⟩
  ihave ⟨HG, HO, Hrem⟩ := hb $$ Hb
  ihave Hc := (creds (F := F) c) $$ Hcr
  ihave ⟨HB, Hr⟩ := (rights (F := F) c) $$ [Hc Hat Htok]
  · isplitl [Hc]; · iexact Hc
    isplitl [Hat] <;> iassumption
  imodintro
  isplitl
  · isplitr
    · iexists K; unfold Ctx; isplitl; · iexact HR
      iexact Hlev
    isplitl [HG]; · iexact HG
    isplitl [HB]; · iexact HB
    isplitl [Hr HO]
    · iapply hP; isplitl [Hr] <;> iassumption
    isplitl [Hrem] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ start
  iintro ⟨⟨HC, HG, HB, HP, HR, Hl⟩, -, Hs⟩
  isplitr [Hl Hs]
  · isplitl [HC]; · iexact HC
    isplitl [HG]; · iexact HG
    isplitl [HB]; · iexact HB
    isplitl [HP] <;> iassumption
  iapply (slots_intro c)
  isplitl [Hs] <;> iassumption

/-- What is read off at the end: the barrier, the block of `partial` and the result. -/
def fin (c : Dev nD) : sProp 𝕄 :=
  iprop(unscopedSems0 c ∗ (((c : Thread nD τ).loc main_arg0) ↦{fullShare} pm m c) ∗ (((c : Thread nD τ).loc main_v1_0) ↦{fullShare} outF m c))

theorem phi1_exit (c : Dev nD) :
    (dats m ρ 0 c).Φ (Fin.last cfg0.N) ⊢ iprop(fin m c ∗ Pipeline.ownSems0 osem c ∗ Pipeline.scopedRest cfg0.spec c) := by
  have hz : (bigSep Finset.univ fun k : Fin 8 => Rest c k : sProp 𝕄) ⊢ bigSep Finset.univ fun p : Fin 10 × Fin 8 => semVal (kcell c (some p)) 0 := by
    rw [chunks_eq]; exact .rfl
  rw [show (dats m ρ 0 c).Φ (Fin.last cfg0.N) = Φ₁ m c from rfl, ownSems0_eq]
  unfold Φ₁ fin
  rw [unscopedSems0_eq]
  iintro ⟨HP, HS, Hz, HR⟩
  ihave ⟨HZ, Hp, Ho⟩ := (join_bufs m c) $$ [HP HR]
  · isplitl [HP] <;> iassumption
  ihave ⟨Hs, Hl⟩ := (slots_elim c) $$ HS
  isplitl [Hz Hp Ho]
  · isplitl [Hz]; · iexact Hz
    isplitl [Hp] <;> iassumption
  isplitr [Hs]
  · isplitl [Hl]; · iexact Hl
    iapply hz; iexact HZ
  iexact Hs

theorem waits (c : Dev nD) : (levAts L lv : sProp 𝕄) ⊢ Pipeline.cellsWaits cfgs (dats m ρ) () 0 c :=
  Pipeline.cellsWaits_intro cfgs (dats m ρ) () 0 c fun w s t => by
    have h0 : lvS (.dma ((cfg0.win w).sem s)) = 0 := by
      have h : ∀ (w : Fin 1) (s : Fin (cfg0.spec w).nbuf), lvS (.dma ((cfg0.spec w).sem s)) = 0 := by decide +kernel
      exact h w s
    rcases t with ⟨_ | _, ht⟩
    · exact mayWait c _ 0 fun t h _ => by rw [h0]; exact lv_owed t h
    · have := mayWait (F := F) c (.dma ((cfg0.win w).sem s)) 51 fun t h _ => by rw [h0]; exact lv_owed t h
      rw [O_51] at this
      exact this

/-! ## The run -/

/-- What a final memory says of device `c`. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1_0) = outF m c

theorem read_fin (c : Dev nD) (s' : Phys nD τ sig (Elt F)) : iprop(fin m c ∗ emp ∗ SI s') ⊢ |={Set.univ}=> iprop(⌜QY m c s'.mem⌝ ∗ SI s' : sProp 𝕄) := by
  unfold fin
  iintro ⟨⟨Hu, Hp, Ho⟩, -, HSI⟩
  imod (Pipeline.unscopedSems0_read (X := unscopedSems0 c) (c := c) fupd_intro s') $$ [Hu HSI] with ⟨%h1, HSI⟩
  · isplitl [Hu] <;> iassumption
  icombine HSI Hp gives %h2
  icombine HSI Ho gives %h3
  imodintro
  isplitr
  · ipureintro
    exact ⟨h1, funext fun i => h2 i (Finset.mem_univ i), funext fun i => h3 i (Finset.mem_univ i)⟩
  iexact HSI

set_option maxRecDepth 65536 in
/-- From any memory with zero counters, on the compiled mesh, for any float values: every weakly fair execution of @main ends, and in
    every final state each device's arguments are as they were, its result array holds `outF`, and every counter is zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1_0) = outF m c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      ihave HX := (Entails.of_eq (show (BI.own (((Emb.inl : Emb UB (UB × Counters)).trans embR) (initOf allCells allToks)) : sProp 𝕄)
        = BI.own (ER (initOf allCells allToks)) from rfl)) $$ HX
      imod (fund_all m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m ρ) (hout := phi1_exit m ρ)
    (QY := QY m) (hY := read_fin m)
    (hQ := fun _ h hs => ⟨fun c => ⟨(h c).2.2.2.1, ((h c).1 0).trans ((dats (F := F) m ρ 0 c).arrAt_in (0 : Fin 1) rfl _), (h c).2.2.2.2⟩,
      sem_eq_zero hs fun c => (h c).2.2.1⟩)

end Cert.KernelIdeal.Run

end
-- ==== Proof.Value.lean ====
/-
The values over the extended reals. What a chunk of the kernel's result holds and what the reference holds, element
by element, and that the two are the same function of the two summands.
-/
module

public import proofs.«01_k».proof.Proof.Contents
public import proofs.«01_k».proof.Proof.Gen.ReferenceIdeal.Run
public import Idealize.ShloMosaic.Lib.Pointwise
public import Idealize.ShloMosaic.Lib.Layout

@[expose] public section

noncomputable section

namespace Cert.KernelIdeal.Val

open Cert.KernelIdeal Cert.KernelIdeal.Gen Cert.KernelIdeal.Run
open Idealize.ShloMosaic Idealize.SL.Sem

/-- Every chunk's payload is the same function. -/
theorem pay_eq {F : FTy → Type} [FloatOps F] (a : Vec F S1x128x4096 .f32) (b : Vec F S128x4096 .f32) (g : Vec F S4096 .f32) (k : Fin 8) :
    payF a b g k = payF a b g 1 := by
  match k with
  | 0 => rfl
  | 1 => rfl
  | 2 => rfl
  | 3 => rfl
  | 4 => rfl
  | 5 => rfl
  | 6 => rfl
  | 7 => rfl

/-- The number of columns and the guard under the root, as the programs write them. -/
def wide : EReal := Ideal.ofBits .f32 0x45800000#32
def guard : EReal := Ideal.ofBits .f32 0x358637BD#32

/-- A chunk's payload at an element. -/
theorem pay_apply (a : Vec Ideal S1x128x4096 .f32) (b : Vec Ideal S128x4096 .f32) (g : Vec Ideal S4096 .f32) (r : Fin 128) (l : Fin 4096) :
    k0_pay3 a b g (ix3 0 r l)
      = (a (ix3 0 r l) + b (ix2 r l))
        * Ideal.rsqrt (Ideal.div (∑ j : Fin 4096, (a (ix3 0 r j) + b (ix2 r j)) * (a (ix3 0 r j) + b (ix2 r j))) wide + guard) * g (ix1 l) := by
  pointwise [k0_pay3, wide, guard]

/-- The reference's value of its arguments: what its run leaves in its result. -/
def refT (p : FVec Ideal Cert.ReferenceIdeal.S2x8192x4096 .f32) (g : FVec Ideal Cert.ReferenceIdeal.S4096 .f32) : FVec Ideal Cert.ReferenceIdeal.S8192x4096 .f32 :=
  open Cert.ReferenceIdeal Cert.ReferenceIdeal.Gen in
  have y : FVec Ideal Cert.ReferenceIdeal.S8192x4096 .f32 := Host.reduceAdd p (constant S_ .f32 0x00000000#32) reducesTo_S2x8192x4096_S8192x4096_d0 h_S_
  have q : FVec Ideal Cert.ReferenceIdeal.S8192 .f32 := Host.reduceAdd (mulf y y) (constant S_ .f32 0x00000000#32) reducesTo_S8192x4096_S8192_d1 h_S_
  mulf (Host.divf y (broadcastInDim S8192x4096 ![0, 1] bcast_S8192x1_S8192x4096_0_1 (Host.sqrt (addf (Host.divf (broadcastInDim S8192x1 ![0] bcast_S8192_S8192x1_0 q) (broadcastInDim S8192x1 ![] bcast_S_S8192x1 (constant S_ .f32 0x45800000#32))) (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

/-- The reference's value at an element. -/
theorem ref_apply (p : FVec Ideal Cert.ReferenceIdeal.S2x8192x4096 .f32) (g : FVec Ideal Cert.ReferenceIdeal.S4096 .f32) (r : Fin 8192) (l : Fin 4096) :
    refT p g (ix2 r l)
      = Ideal.div (p (ix3 0 r l) + p (ix3 1 r l))
          (Ideal.sqrt (Ideal.div (∑ j : Fin 4096, (p (ix3 0 r j) + p (ix3 1 r j)) * (p (ix3 0 r j) + p (ix3 1 r j))) wide + guard)) * g (ix1 l) := by
  pointwise [refT, wide, guard]
  simp only [Fin.sum_univ_two]

/-! ## The two quotients -/

theorem wide_pos : 0 < wide := by
  have h : wide = ((4096 : ℝ) : EReal) := by simp [wide, Ideal.ofBits, Ideal.ieee, -EReal.coe_mul]; norm_num
  rw [h]
  exact_mod_cast (by norm_num : (0 : ℝ) < 4096)

theorem guard_pos : 0 < guard := by
  have h : guard = (((2 ^ 23 + 407485 : ℕ) * (2 : ℝ) ^ (-43 : Int) : ℝ) : EReal) := by simp [guard, Ideal.ofBits, Ideal.ieee, -EReal.coe_mul]
  rw [h]
  exact_mod_cast (by positivity : (0 : ℝ) < (2 ^ 23 + 407485 : ℕ) * (2 : ℝ) ^ (-43 : Int))

/-- A square is not negative, at infinities too. -/
theorem square_nonneg (x : EReal) : 0 ≤ x * x := by
  rcases le_total 0 x with h | h
  · exact mul_nonneg h h
  · have h' : 0 ≤ -x := EReal.neg_nonneg.mpr h
    rw [← neg_mul_neg]
    exact mul_nonneg h' h'

/-- The guarded mean of a row's squares is positive. -/
theorem mean_pos (y : Fin 4096 → EReal) : 0 < Ideal.div (∑ j, y j * y j) wide + guard := by
  refine lt_of_lt_of_le guard_pos (le_add_of_nonneg_left ?_)
  rw [Ideal.div, if_neg wide_pos.ne']
  exact mul_nonneg (Finset.sum_nonneg fun j _ => square_nonneg _) (EReal.inv_nonneg_of_nonneg wide_pos.le)

/-- At a positive value, infinity included, a product with the reciprocal root is the quotient by the root. -/
theorem mul_rsqrt (y v : EReal) (h : 0 < v) : y * Ideal.rsqrt v = Ideal.div y (Ideal.sqrt v) := by
  induction v using EReal.rec with
  | bot => exact absurd h (by simp)
  | top => simp [Ideal.div]
  | coe r =>
    have hr : 0 < r := by exact_mod_cast h
    have hs : (Real.sqrt r : EReal) ≠ 0 := by exact_mod_cast (Real.sqrt_pos.mpr hr).ne'
    rw [Ideal.rsqrt_coe, Ideal.sqrt_coe, if_neg hr.not_gt, if_neg hr.ne', if_neg hr.not_gt, Ideal.div, if_neg hs, EReal.coe_inv]

/-- So a chunk's payload at an element is the reference's value at the row the chunk's row is of, if the two summands are the
    two halves of `partial` there, in either order. -/
theorem pay_eq_ref (a : Vec Ideal S1x128x4096 .f32) (b : Vec Ideal S128x4096 .f32) (g : Vec Ideal S4096 .f32)
    (p : FVec Ideal Cert.ReferenceIdeal.S2x8192x4096 .f32) (r : Fin 128) (R : Fin 8192) (l : Fin 4096)
    (h : ∀ j : Fin 4096, a (ix3 0 r j) + b (ix2 r j) = p (ix3 0 R j) + p (ix3 1 R j)) (k : Fin 8) :
    payF a b g k (ix3 0 r l) = refT p g (ix2 R l) := by
  rw [pay_eq]
  refine (pay_apply a b g r l).trans ?_
  rw [ref_apply]
  simp only [h]
  rw [mul_rsqrt _ _ (mean_pos fun j => p (ix3 0 R j) + p (ix3 1 R j))]

/-! ## Where the blocks lie -/

/-- A device's block of `partial` is the half its `y` names, -/
theorem part_at (p : FVec Ideal Cert.ReferenceIdeal.S2x8192x4096 .f32) (c : Dev nD) (i : S1x8192x4096.Idx) (R : Fin 8192) (j : Fin 4096)
    (h1 : (i 1).val = R.val) (h2 : (i 2).val = j.val) :
    (Layout.blockN ⟨3, ![1, 8192, 4096]⟩ ⟨3, ![2, 8192, 4096]⟩ (Layout.meshBlock [2, 2, 4] ![[1], [], []] c) p) i
      = p (ix3 ⟨c.val / 4 % 2, Nat.mod_lt _ (by decide)⟩ R j) := by
  have hc : ((Layout.meshBlock [2, 2, 4] ![[1], [], []] c) 0).val = c.val / 4 % 2 := by revert c; decide +kernel
  rw [Layout.blockN_apply]
  congr 1
  funext d
  have h0 : (i 0).val < 1 := (i 0).isLt
  apply Fin.ext
  rw [Layout.TilesN.idx_val]
  match d with
  | ⟨0, _⟩ => show ((Layout.meshBlock [2, 2, 4] ![[1], [], []] c) 0).val * 1 + (i 0).val = c.val / 4 % 2; omega
  | ⟨1, _⟩ => show 0 % 1 * 8192 + (i 1).val = R.val; omega
  | ⟨2, _⟩ => show 0 % 1 * 4096 + (i 2).val = j.val; omega

/-- and its block of the result the rows of that half. -/
theorem rows_at (v : FVec Ideal Cert.ReferenceIdeal.S8192x4096 .f32) (c : Dev nD) (i : S4096x4096.Idx) (R : Fin 8192) (l : Fin 4096)
    (h0 : R.val = 4096 * (c.val / 4 % 2) + (i 0).val) (h1 : (i 1).val = l.val) :
    (Layout.blockN ⟨2, ![4096, 4096]⟩ ⟨2, ![8192, 4096]⟩ (Layout.meshBlock [2, 2, 4] ![[1], []] c) v) i = v (ix2 R l) := by
  have hc : ((Layout.meshBlock [2, 2, 4] ![[1], []] c) 0).val = c.val / 4 % 2 := by clear h0; revert c; decide +kernel
  rw [Layout.blockN_apply]
  congr 1
  funext d
  apply Fin.ext
  rw [Layout.TilesN.idx_val]
  match d with
  | ⟨0, _⟩ => show ((Layout.meshBlock [2, 2, 4] ![[1], []] c) 0).val * 4096 + (i 0).val = R.val; omega
  | ⟨1, _⟩ => show 0 % 1 * 4096 + (i 1).val = l.val; omega

/-- The device of a group that owns quarter `q` has the group's `y`, its rows start at that quarter, -/
theorem bs_own (c : Dev nD) (q : ℕ) (hq : q < 4) : bs (own c q) = 4096 * (c.val / 4 % 2) + 1024 * q := by
  have h : ∀ (c : Dev nD) (q : Fin 4), bs (own c q.val) = 4096 * (c.val / 4 % 2) + 1024 * q.val := by decide +kernel
  exact h c ⟨q, hq⟩
/-- and partners along `y` have different halves. -/
theorem half_yPeer (c : Dev nD) : (yPeer c).val / 4 % 2 = 1 - c.val / 4 % 2 := by revert c; decide +kernel

/-! ## The kernel's result -/

variable (m : (ℓ : Loc nD τ sig) → Buf (Elt Ideal) ℓ) (p : FVec Ideal Cert.ReferenceIdeal.S2x8192x4096 .f32) (g : FVec Ideal Cert.ReferenceIdeal.S4096 .f32)

/-- On every device the result is that device's block of the reference's value, if the arguments are its parts of the
    reference's arguments. -/
theorem outF_eq
    (hp : ∀ c : Dev nD, pm m c = Layout.blockN ⟨3, ![1, 8192, 4096]⟩ ⟨3, ![2, 8192, 4096]⟩ (Layout.meshBlock [2, 2, 4] ![[1], [], []] c) p)
    (hg : ∀ c : Dev nD, gm m c = g) (c : Dev nD) :
    outF m c = Layout.blockN ⟨2, ![4096, 4096]⟩ ⟨2, ![8192, 4096]⟩ (Layout.meshBlock [2, 2, 4] ![[1], []] c) (refT p g) := by
  funext i
  have hi : (i 0).val < 4096 := (i 0).isLt
  have hl : (i 1).val < 4096 := (i 1).isLt
  have hy : c.val / 4 % 2 < 2 := Nat.mod_lt _ (by decide)
  set q : ℕ := (i 0).val / 1024 with hq
  set k : Fin 8 := fo 8 (i := (i 0).val % 1024 / 128) with hk
  have hkv : k.val = (i 0).val % 1024 / 128 % 8 := rfl
  set o : Dev nD := own c q with ho
  have hb : bs o = 4096 * (c.val / 4 % 2) + 1024 * q := bs_own c q (by omega)
  let R : Fin 8192 := ⟨4096 * (c.val / 4 % 2) + (i 0).val, by omega⟩
  have hpN : ∀ (d : Dev nD) (j : Fin 4096),
      pN m d (bs o + 128 * k.val + (i 0).val % 128) j.val = p (ix3 ⟨d.val / 4 % 2, Nat.mod_lt _ (by decide)⟩ R j) := fun d j => by
    unfold pN
    rw [hp d]
    refine part_at p d _ R j ?_ ?_
    · show (bs o + 128 * k.val + (i 0).val % 128) % 8192 = 4096 * (c.val / 4 % 2) + (i 0).val
      omega
    · show j.val % 4096 = j.val
      omega
  have hoy : o.val / 4 % 2 = c.val / 4 % 2 := by
    have h : ∀ (c : Dev nD) (q : Fin 4), (own c q.val).val / 4 % 2 = c.val / 4 % 2 := by decide +kernel
    exact h c ⟨q, by omega⟩
  rw [rows_at (refT p g) c i R ⟨(i 1).val, hl⟩ rfl rfl]
  refine Eq.trans ?_ (pay_eq_ref (aV m o k) (bV m o k) g p (fo 128 (i := (i 0).val % 128)) R ⟨(i 1).val, hl⟩ (fun j => ?_) k)
  · show payF (aV m o k) (bV m o k) (gm m o) k _ = _
    rw [hg o]
    congr 1
    funext d
    match d with
    | ⟨0, _⟩ => rfl
    | ⟨1, _⟩ => rfl
    | ⟨2, _⟩ => exact Fin.ext (Nat.mod_eq_of_lt hl)
  · have hr : (i 0).val % 128 % 128 = (i 0).val % 128 := Nat.mod_mod _ _
    have ha : aV m o k (ix3 0 (fo 128 (i := (i 0).val % 128)) j) = p (ix3 ⟨o.val / 4 % 2, Nat.mod_lt _ (by decide)⟩ R j) := by
      rw [← hpN o j]
      show pN m o (bs o + 128 * k.val + (i 0).val % 128 % 128) j.val = _
      rw [hr]
    have hb' : bV m o k (ix2 (fo 128 (i := (i 0).val % 128)) j) = p (ix3 ⟨(yPeer o).val / 4 % 2, Nat.mod_lt _ (by decide)⟩ R j) := by
      rw [← hpN (yPeer o) j]
      show pN m (yPeer o) (bs o + 128 * k.val + (i 0).val % 128 % 128) j.val = _
      rw [hr]
    rw [ha, hb']
    have hye := half_yPeer o
    rcases (by omega : o.val / 4 % 2 = 0 ∨ o.val / 4 % 2 = 1) with h0 | h0
    · have e0 : (⟨o.val / 4 % 2, Nat.mod_lt _ (by decide)⟩ : Fin 2) = 0 := Fin.ext h0
      have e1 : (⟨(yPeer o).val / 4 % 2, Nat.mod_lt _ (by decide)⟩ : Fin 2) = 1 := Fin.ext (hye.trans (by rw [h0]; rfl))
      rw [e0, e1]
    · have e0 : (⟨o.val / 4 % 2, Nat.mod_lt _ (by decide)⟩ : Fin 2) = 1 := Fin.ext h0
      have e1 : (⟨(yPeer o).val / 4 % 2, Nat.mod_lt _ (by decide)⟩ : Fin 2) = 0 := Fin.ext (hye.trans (by rw [h0]; rfl))
      rw [e0, e1, add_comm]

end Cert.KernelIdeal.Val

end
-- ==== Proof.lean ====
/-
The proof of `Cert.Claim` (Defs.lean): the frames of the three programs, and that the kernel's result on each device is
its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel over the extended reals ends, leaves its arguments as they were and every counter at zero. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Run.run_main (F := Ideal) m ρ)

/-- The body tables of the two programs, which have the same text, agree: label by label, -/
theorem bodies_eq : @Cert.Kernel.defs₀ Bits _ _ = @Cert.KernelIdeal.defs₀ Bits _ _ := by
  unfold Cert.Kernel.defs₀ Cert.KernelIdeal.defs₀
  congr 1
  funext l x
  match l, x with
  | 0, (t, s) => rfl

/-- and so do their tables with the region around the body. -/
theorem defs_eq : @Cert.Kernel.defs Bits _ _ = @Cert.KernelIdeal.defs Bits _ _ := congrArg (Pipeline.defs _) bodies_eq

/-- So does the kernel on machine words. -/
theorem frame_kernel : Cert.quiescent_Kernel := fun m ρ _ => by
  rw [defs_eq]
  exact (θ_run Cert.KernelIdeal.defs (onTc (τ := Cert.KernelIdeal.τ) (Cert.KernelIdeal.main (F := Bits))) ⟨m, fun _ => 0, ρ⟩).mono
    (fun _ h => ⟨fun c => ⟨(h.1 c).1, (h.1 c).2.1⟩, h.2⟩) (Cert.KernelIdeal.Run.run_main (F := Bits) m ρ)

/-- So does the reference, which has no counters. -/
theorem frame_referenceIdeal : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- On every device the kernel ends with its block of what the reference ends with. -/
theorem algebraic : Cert.algebraic_KernelIdeal_ReferenceIdeal := fun m g m' g' _ h =>
  ⟨Cert.KernelIdeal.Val.refT (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ r c => ⟨(r.1 c).2.2.trans (Cert.KernelIdeal.Val.outF_eq m _ _ (fun c => (h c).1) (fun c => (h c).2) c), (r.1 c).1, (r.1 c).2.1⟩)
      (Cert.KernelIdeal.Run.run_main (F := Ideal) m g),
    (θ_run Cert.ReferenceIdeal.defs _ _).mono (fun _ r => r 0) (Cert.ReferenceIdeal.Value.run (F := Ideal) m' g')⟩

/-- All the claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
